-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S4096x4096 : Shape := ⟨2, ![4096, 4096]⟩
abbrev S8 : Shape := ⟨1, ![8]⟩
abbrev S16 : Shape := ⟨1, ![16]⟩
abbrev S1 : Shape := ⟨1, ![1]⟩
abbrev S_ : Shape := ⟨0, ![]⟩
abbrev S256x512 : Shape := ⟨2, ![256, 512]⟩
abbrev S128x4096 : Shape := ⟨2, ![128, 4096]⟩
abbrev S128x512 : Shape := ⟨2, ![128, 512]⟩

abbrev nBuf : Space → Nat
  | .hbm => 3
  | .vmem => 4
  | .smem => 0
  | _ => 0

abbrev bufTy : (tb : Table) → Fin (tcTables nBuf tb) → BufTy
  | .hbm, ⟨0, _⟩ => ⟨S256x4096, .bf16⟩
  | .hbm, ⟨1, _⟩ => ⟨S4096x512, .bf16⟩
  | .hbm, ⟨2, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .f32⟩
  | .local _ .vmem, ⟨3, _⟩ => ⟨S4096x4096, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi v2 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  ![v40.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_26 : BitVec 32 := 16#32
  let c0_i32_27 : BitVec 32 := 0#32
  let v41 : BitVec 1 := Scalar.cmpi .eq c16_i32_26 c0_i32_27
  let c1_i32_28 : BitVec 32 := 1#32
  let v42 : BitVec 32 := Scalar.select v41 c1_i32_28 c16_i32_26
  let v43 : BitVec 32 := Scalar.remsi v2 v42
  let c0_i32_30 : BitVec 32 := 0#32
  let v45 : BitVec 1 := Scalar.cmpi .slt v43 c0_i32_30
  let c0_i32_31 : BitVec 32 := 0#32
  let v46 : BitVec 1 := Scalar.cmpi .slt v42 c0_i32_31
  let v47 : BitVec 1 := Scalar.xori v45 v46
  let c0_i32_29 : BitVec 32 := 0#32
  let v44 : BitVec 1 := Scalar.cmpi .ne v43 c0_i32_29
  let v48 : BitVec 1 := Scalar.andi v47 v44
  let v49 : BitVec 32 := Scalar.addi v43 v42
  let v50 : BitVec 32 := Scalar.select v48 v49 v43
  let c256_i32 : BitVec 32 := 256#32
  let v51 : BitVec 32 := Scalar.muli v50 c256_i32
  let c0_i32_32 : BitVec 32 := 0#32
  let v52 : BitVec 32 := Scalar.addi v51 c0_i32_32
  let c0_i32_36 : BitVec 32 := 0#32
  ![v52.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_34 : BitVec 32 := 1#32
  let v53 : BitVec 32 := Scalar.muli v25 c1_i32_34
  let v54 : BitVec 32 := Scalar.addi c0_i32_35 v53
  v54.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_52 : BitVec 32 := 1#32
  let v82 : BitVec 32 := Scalar.muli v14 c1_i32_52
  let v83 : BitVec 32 := Scalar.addi c0_i32_53 v82
  v83.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_56 : BitVec 32 := 16#32
  let c0_i32_57 : BitVec 32 := 0#32
  let v91 : BitVec 1 := Scalar.cmpi .eq c16_i32_56 c0_i32_57
  let c1_i32_58 : BitVec 32 := 1#32
  let v92 : BitVec 32 := Scalar.select v91 c1_i32_58 c16_i32_56
  let v93 : BitVec 32 := Scalar.remsi v2 v92
  let c0_i32_60 : BitVec 32 := 0#32
  let v95 : BitVec 1 := Scalar.cmpi .slt v93 c0_i32_60
  let c0_i32_61 : BitVec 32 := 0#32
  let v96 : BitVec 1 := Scalar.cmpi .slt v92 c0_i32_61
  let v97 : BitVec 1 := Scalar.xori v95 v96
  let c0_i32_59 : BitVec 32 := 0#32
  let v94 : BitVec 1 := Scalar.cmpi .ne v93 c0_i32_59
  let v98 : BitVec 1 := Scalar.andi v97 v94
  let v99 : BitVec 32 := Scalar.addi v93 v92
  let v100 : BitVec 32 := Scalar.select v98 v99 v93
  let c256_i32_62 : BitVec 32 := 256#32
  let v101 : BitVec 32 := Scalar.muli v100 c256_i32_62
  let c0_i32_63 : BitVec 32 := 0#32
  let v102 : BitVec 32 := Scalar.addi v101 c0_i32_63
  let v103 : Index := Scalar.indexCast v102
  let c0_64 : Index := 0#32
  ![v103.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_80 : BitVec 32 := 16#32
  let c0_i32_81 : BitVec 32 := 0#32
  let v137 : BitVec 1 := Scalar.cmpi .eq c16_i32_80 c0_i32_81
  let c1_i32_82 : BitVec 32 := 1#32
  let v138 : BitVec 32 := Scalar.select v137 c1_i32_82 c16_i32_80
  let v139 : BitVec 32 := Scalar.remsi v2 v138
  let c0_i32_84 : BitVec 32 := 0#32
  let v141 : BitVec 1 := Scalar.cmpi .slt v139 c0_i32_84
  let c0_i32_85 : BitVec 32 := 0#32
  let v142 : BitVec 1 := Scalar.cmpi .slt v138 c0_i32_85
  let v143 : BitVec 1 := Scalar.xori v141 v142
  let c0_i32_83 : BitVec 32 := 0#32
  let v140 : BitVec 1 := Scalar.cmpi .ne v139 c0_i32_83
  let v144 : BitVec 1 := Scalar.andi v143 v140
  let v145 : BitVec 32 := Scalar.addi v139 v138
  let v146 : BitVec 32 := Scalar.select v144 v145 v139
  let c256_i32_86 : BitVec 32 := 256#32
  let v147 : BitVec 32 := Scalar.muli v146 c256_i32_86
  let c0_i32_87 : BitVec 32 := 0#32
  let v148 : BitVec 32 := Scalar.addi v147 c0_i32_87
  let v149 : Index := Scalar.indexCast v148
  let c0_88 : Index := 0#32
  ![v149.toNat, 0]
def k0_off5 (d0 : Dev nD) (c0_i32_91 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_89 : BitVec 32 := 16#32
  let v151 : BitVec 32 := Scalar.addi v2 c16_i32_89
  let c1_i32_90 : BitVec 32 := 1#32
  let v152 : BitVec 32 := Scalar.subi v151 c1_i32_90
  let v153 : BitVec 32 := Scalar.subi v152 c0_i32_91
  let c16_i32_92 : BitVec 32 := 16#32
  let c0_i32_93 : BitVec 32 := 0#32
  let v154 : BitVec 1 := Scalar.cmpi .eq c16_i32_92 c0_i32_93
  let c1_i32_94 : BitVec 32 := 1#32
  let v155 : BitVec 32 := Scalar.select v154 c1_i32_94 c16_i32_92
  let v156 : BitVec 32 := Scalar.remsi v153 v155
  let c0_i32_96 : BitVec 32 := 0#32
  let v158 : BitVec 1 := Scalar.cmpi .slt v156 c0_i32_96
  let c0_i32_97 : BitVec 32 := 0#32
  let v159 : BitVec 1 := Scalar.cmpi .slt v155 c0_i32_97
  let v160 : BitVec 1 := Scalar.xori v158 v159
  let c0_i32_95 : BitVec 32 := 0#32
  let v157 : BitVec 1 := Scalar.cmpi .ne v156 c0_i32_95
  let v161 : BitVec 1 := Scalar.andi v160 v157
  let v162 : BitVec 32 := Scalar.addi v156 v155
  let v163 : BitVec 32 := Scalar.select v161 v162 v156
  let c16_i32_106 : BitVec 32 := 16#32
  let c0_i32_107 : BitVec 32 := 0#32
  let v176 : BitVec 1 := Scalar.cmpi .eq c16_i32_106 c0_i32_107
  let c1_i32_108 : BitVec 32 := 1#32
  let v177 : BitVec 32 := Scalar.select v176 c1_i32_108 c16_i32_106
  let v178 : BitVec 32 := Scalar.remsi v163 v177
  let c0_i32_110 : BitVec 32 := 0#32
  let v180 : BitVec 1 := Scalar.cmpi .slt v178 c0_i32_110
  let c0_i32_111 : BitVec 32 := 0#32
  let v181 : BitVec 1 := Scalar.cmpi .slt v177 c0_i32_111
  let v182 : BitVec 1 := Scalar.xori v180 v181
  let c0_i32_109 : BitVec 32 := 0#32
  let v179 : BitVec 1 := Scalar.cmpi .ne v178 c0_i32_109
  let v183 : BitVec 1 := Scalar.andi v182 v179
  let v184 : BitVec 32 := Scalar.addi v178 v177
  let v185 : BitVec 32 := Scalar.select v183 v184 v178
  ![v185.toNat]
def k0_off6 (d0 : Dev nD) (c0_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_89 : BitVec 32 := 16#32
  let v151 : BitVec 32 := Scalar.addi v2 c16_i32_89
  let c1_i32_90 : BitVec 32 := 1#32
  let v152 : BitVec 32 := Scalar.subi v151 c1_i32_90
  let v153 : BitVec 32 := Scalar.subi v152 c0_i32_91
  let c16_i32_92 : BitVec 32 := 16#32
  let c0_i32_93 : BitVec 32 := 0#32
  let v154 : BitVec 1 := Scalar.cmpi .eq c16_i32_92 c0_i32_93
  let c1_i32_94 : BitVec 32 := 1#32
  let v155 : BitVec 32 := Scalar.select v154 c1_i32_94 c16_i32_92
  let v156 : BitVec 32 := Scalar.remsi v153 v155
  let c0_i32_96 : BitVec 32 := 0#32
  let v158 : BitVec 1 := Scalar.cmpi .slt v156 c0_i32_96
  let c0_i32_97 : BitVec 32 := 0#32
  let v159 : BitVec 1 := Scalar.cmpi .slt v155 c0_i32_97
  let v160 : BitVec 1 := Scalar.xori v158 v159
  let c0_i32_95 : BitVec 32 := 0#32
  let v157 : BitVec 1 := Scalar.cmpi .ne v156 c0_i32_95
  let v161 : BitVec 1 := Scalar.andi v160 v157
  let v162 : BitVec 32 := Scalar.addi v156 v155
  let v163 : BitVec 32 := Scalar.select v161 v162 v156
  let c16_i32_120 : BitVec 32 := 16#32
  let c0_i32_121 : BitVec 32 := 0#32
  let v198 : BitVec 1 := Scalar.cmpi .eq c16_i32_120 c0_i32_121
  let c1_i32_122 : BitVec 32 := 1#32
  let v199 : BitVec 32 := Scalar.select v198 c1_i32_122 c16_i32_120
  let v200 : BitVec 32 := Scalar.remsi v163 v199
  let c0_i32_124 : BitVec 32 := 0#32
  let v202 : BitVec 1 := Scalar.cmpi .slt v200 c0_i32_124
  let c0_i32_125 : BitVec 32 := 0#32
  let v203 : BitVec 1 := Scalar.cmpi .slt v199 c0_i32_125
  let v204 : BitVec 1 := Scalar.xori v202 v203
  let c0_i32_123 : BitVec 32 := 0#32
  let v201 : BitVec 1 := Scalar.cmpi .ne v200 c0_i32_123
  let v205 : BitVec 1 := Scalar.andi v204 v201
  let v206 : BitVec 32 := Scalar.addi v200 v199
  let v207 : BitVec 32 := Scalar.select v205 v206 v200
  let c256_i32_126 : BitVec 32 := 256#32
  let v208 : BitVec 32 := Scalar.muli v207 c256_i32_126
  let c0_i32_127 : BitVec 32 := 0#32
  let v209 : BitVec 32 := Scalar.addi v208 c0_i32_127
  let c0_i32_131 : BitVec 32 := 0#32
  ![v209.toNat, 0]
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_156 : BitVec 32 := 1#32
  let v250 : BitVec 32 := Scalar.muli v25 c1_i32_156
  let v251 : BitVec 32 := Scalar.addi c0_i32_157 v250
  v251.toNat
def k0_off7 (d0 : Dev nD) (c0_i32_99 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_98 : BitVec 32 := 1#32
  let v164 : BitVec 32 := Scalar.addi v2 c1_i32_98
  let v165 : BitVec 32 := Scalar.addi v164 c0_i32_99
  let c16_i32_100 : BitVec 32 := 16#32
  let c0_i32_101 : BitVec 32 := 0#32
  let v166 : BitVec 1 := Scalar.cmpi .eq c16_i32_100 c0_i32_101
  let c1_i32_102 : BitVec 32 := 1#32
  let v167 : BitVec 32 := Scalar.select v166 c1_i32_102 c16_i32_100
  let v168 : BitVec 32 := Scalar.remsi v165 v167
  let c0_i32_104 : BitVec 32 := 0#32
  let v170 : BitVec 1 := Scalar.cmpi .slt v168 c0_i32_104
  let c0_i32_105 : BitVec 32 := 0#32
  let v171 : BitVec 1 := Scalar.cmpi .slt v167 c0_i32_105
  let v172 : BitVec 1 := Scalar.xori v170 v171
  let c0_i32_103 : BitVec 32 := 0#32
  let v169 : BitVec 1 := Scalar.cmpi .ne v168 c0_i32_103
  let v173 : BitVec 1 := Scalar.andi v172 v169
  let v174 : BitVec 32 := Scalar.addi v168 v167
  let v175 : BitVec 32 := Scalar.select v173 v174 v168
  let c16_i32_160 : BitVec 32 := 16#32
  let c0_i32_161 : BitVec 32 := 0#32
  let v258 : BitVec 1 := Scalar.cmpi .eq c16_i32_160 c0_i32_161
  let c1_i32_162 : BitVec 32 := 1#32
  let v259 : BitVec 32 := Scalar.select v258 c1_i32_162 c16_i32_160
  let v260 : BitVec 32 := Scalar.remsi v175 v259
  let c0_i32_164 : BitVec 32 := 0#32
  let v262 : BitVec 1 := Scalar.cmpi .slt v260 c0_i32_164
  let c0_i32_165 : BitVec 32 := 0#32
  let v263 : BitVec 1 := Scalar.cmpi .slt v259 c0_i32_165
  let v264 : BitVec 1 := Scalar.xori v262 v263
  let c0_i32_163 : BitVec 32 := 0#32
  let v261 : BitVec 1 := Scalar.cmpi .ne v260 c0_i32_163
  let v265 : BitVec 1 := Scalar.andi v264 v261
  let v266 : BitVec 32 := Scalar.addi v260 v259
  let v267 : BitVec 32 := Scalar.select v265 v266 v260
  ![v267.toNat]
def k0_off8 (d0 : Dev nD) (c0_i32_99 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_98 : BitVec 32 := 1#32
  let v164 : BitVec 32 := Scalar.addi v2 c1_i32_98
  let v165 : BitVec 32 := Scalar.addi v164 c0_i32_99
  let c16_i32_100 : BitVec 32 := 16#32
  let c0_i32_101 : BitVec 32 := 0#32
  let v166 : BitVec 1 := Scalar.cmpi .eq c16_i32_100 c0_i32_101
  let c1_i32_102 : BitVec 32 := 1#32
  let v167 : BitVec 32 := Scalar.select v166 c1_i32_102 c16_i32_100
  let v168 : BitVec 32 := Scalar.remsi v165 v167
  let c0_i32_104 : BitVec 32 := 0#32
  let v170 : BitVec 1 := Scalar.cmpi .slt v168 c0_i32_104
  let c0_i32_105 : BitVec 32 := 0#32
  let v171 : BitVec 1 := Scalar.cmpi .slt v167 c0_i32_105
  let v172 : BitVec 1 := Scalar.xori v170 v171
  let c0_i32_103 : BitVec 32 := 0#32
  let v169 : BitVec 1 := Scalar.cmpi .ne v168 c0_i32_103
  let v173 : BitVec 1 := Scalar.andi v172 v169
  let v174 : BitVec 32 := Scalar.addi v168 v167
  let v175 : BitVec 32 := Scalar.select v173 v174 v168
  let c16_i32_174 : BitVec 32 := 16#32
  let c0_i32_175 : BitVec 32 := 0#32
  let v280 : BitVec 1 := Scalar.cmpi .eq c16_i32_174 c0_i32_175
  let c1_i32_176 : BitVec 32 := 1#32
  let v281 : BitVec 32 := Scalar.select v280 c1_i32_176 c16_i32_174
  let v282 : BitVec 32 := Scalar.remsi v175 v281
  let c0_i32_178 : BitVec 32 := 0#32
  let v284 : BitVec 1 := Scalar.cmpi .slt v282 c0_i32_178
  let c0_i32_179 : BitVec 32 := 0#32
  let v285 : BitVec 1 := Scalar.cmpi .slt v281 c0_i32_179
  let v286 : BitVec 1 := Scalar.xori v284 v285
  let c0_i32_177 : BitVec 32 := 0#32
  let v283 : BitVec 1 := Scalar.cmpi .ne v282 c0_i32_177
  let v287 : BitVec 1 := Scalar.andi v286 v283
  let v288 : BitVec 32 := Scalar.addi v282 v281
  let v289 : BitVec 32 := Scalar.select v287 v288 v282
  let c256_i32_180 : BitVec 32 := 256#32
  let v290 : BitVec 32 := Scalar.muli v289 c256_i32_180
  let c0_i32_181 : BitVec 32 := 0#32
  let v291 : BitVec 32 := Scalar.addi v290 c0_i32_181
  let c0_i32_185 : BitVec 32 := 0#32
  ![v291.toNat, 0]
def k0_dev6 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_210 : BitVec 32 := 1#32
  let v332 : BitVec 32 := Scalar.muli v14 c1_i32_210
  let v333 : BitVec 32 := Scalar.addi c0_i32_211 v332
  v333.toNat
def k0_off9 (d0 : Dev nD) (c0_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_89 : BitVec 32 := 16#32
  let v151 : BitVec 32 := Scalar.addi v2 c16_i32_89
  let c1_i32_90 : BitVec 32 := 1#32
  let v152 : BitVec 32 := Scalar.subi v151 c1_i32_90
  let v153 : BitVec 32 := Scalar.subi v152 c0_i32_91
  let c16_i32_92 : BitVec 32 := 16#32
  let c0_i32_93 : BitVec 32 := 0#32
  let v154 : BitVec 1 := Scalar.cmpi .eq c16_i32_92 c0_i32_93
  let c1_i32_94 : BitVec 32 := 1#32
  let v155 : BitVec 32 := Scalar.select v154 c1_i32_94 c16_i32_92
  let v156 : BitVec 32 := Scalar.remsi v153 v155
  let c0_i32_96 : BitVec 32 := 0#32
  let v158 : BitVec 1 := Scalar.cmpi .slt v156 c0_i32_96
  let c0_i32_97 : BitVec 32 := 0#32
  let v159 : BitVec 1 := Scalar.cmpi .slt v155 c0_i32_97
  let v160 : BitVec 1 := Scalar.xori v158 v159
  let c0_i32_95 : BitVec 32 := 0#32
  let v157 : BitVec 1 := Scalar.cmpi .ne v156 c0_i32_95
  let v161 : BitVec 1 := Scalar.andi v160 v157
  let v162 : BitVec 32 := Scalar.addi v156 v155
  let v163 : BitVec 32 := Scalar.select v161 v162 v156
  let c16_i32_214 : BitVec 32 := 16#32
  let c0_i32_215 : BitVec 32 := 0#32
  let v340 : BitVec 1 := Scalar.cmpi .eq c16_i32_214 c0_i32_215
  let c1_i32_216 : BitVec 32 := 1#32
  let v341 : BitVec 32 := Scalar.select v340 c1_i32_216 c16_i32_214
  let v342 : BitVec 32 := Scalar.remsi v163 v341
  let c0_i32_218 : BitVec 32 := 0#32
  let v344 : BitVec 1 := Scalar.cmpi .slt v342 c0_i32_218
  let c0_i32_219 : BitVec 32 := 0#32
  let v345 : BitVec 1 := Scalar.cmpi .slt v341 c0_i32_219
  let v346 : BitVec 1 := Scalar.xori v344 v345
  let c0_i32_217 : BitVec 32 := 0#32
  let v343 : BitVec 1 := Scalar.cmpi .ne v342 c0_i32_217
  let v347 : BitVec 1 := Scalar.andi v346 v343
  let v348 : BitVec 32 := Scalar.addi v342 v341
  let v349 : BitVec 32 := Scalar.select v347 v348 v342
  let c256_i32_220 : BitVec 32 := 256#32
  let v350 : BitVec 32 := Scalar.muli v349 c256_i32_220
  let c0_i32_221 : BitVec 32 := 0#32
  let v351 : BitVec 32 := Scalar.addi v350 c0_i32_221
  let v352 : Index := Scalar.indexCast v351
  let c0_222 : Index := 0#32
  ![v352.toNat, 0]
def k0_off10 (d0 : Dev nD) (c0_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_89 : BitVec 32 := 16#32
  let v151 : BitVec 32 := Scalar.addi v2 c16_i32_89
  let c1_i32_90 : BitVec 32 := 1#32
  let v152 : BitVec 32 := Scalar.subi v151 c1_i32_90
  let v153 : BitVec 32 := Scalar.subi v152 c0_i32_91
  let c16_i32_92 : BitVec 32 := 16#32
  let c0_i32_93 : BitVec 32 := 0#32
  let v154 : BitVec 1 := Scalar.cmpi .eq c16_i32_92 c0_i32_93
  let c1_i32_94 : BitVec 32 := 1#32
  let v155 : BitVec 32 := Scalar.select v154 c1_i32_94 c16_i32_92
  let v156 : BitVec 32 := Scalar.remsi v153 v155
  let c0_i32_96 : BitVec 32 := 0#32
  let v158 : BitVec 1 := Scalar.cmpi .slt v156 c0_i32_96
  let c0_i32_97 : BitVec 32 := 0#32
  let v159 : BitVec 1 := Scalar.cmpi .slt v155 c0_i32_97
  let v160 : BitVec 1 := Scalar.xori v158 v159
  let c0_i32_95 : BitVec 32 := 0#32
  let v157 : BitVec 1 := Scalar.cmpi .ne v156 c0_i32_95
  let v161 : BitVec 1 := Scalar.andi v160 v157
  let v162 : BitVec 32 := Scalar.addi v156 v155
  let v163 : BitVec 32 := Scalar.select v161 v162 v156
  let c16_i32_230 : BitVec 32 := 16#32
  let c0_i32_231 : BitVec 32 := 0#32
  let v370 : BitVec 1 := Scalar.cmpi .eq c16_i32_230 c0_i32_231
  let c1_i32_232 : BitVec 32 := 1#32
  let v371 : BitVec 32 := Scalar.select v370 c1_i32_232 c16_i32_230
  let v372 : BitVec 32 := Scalar.remsi v163 v371
  let c0_i32_234 : BitVec 32 := 0#32
  let v374 : BitVec 1 := Scalar.cmpi .slt v372 c0_i32_234
  let c0_i32_235 : BitVec 32 := 0#32
  let v375 : BitVec 1 := Scalar.cmpi .slt v371 c0_i32_235
  let v376 : BitVec 1 := Scalar.xori v374 v375
  let c0_i32_233 : BitVec 32 := 0#32
  let v373 : BitVec 1 := Scalar.cmpi .ne v372 c0_i32_233
  let v377 : BitVec 1 := Scalar.andi v376 v373
  let v378 : BitVec 32 := Scalar.addi v372 v371
  let v379 : BitVec 32 := Scalar.select v377 v378 v372
  let c256_i32_236 : BitVec 32 := 256#32
  let v380 : BitVec 32 := Scalar.muli v379 c256_i32_236
  let c0_i32_237 : BitVec 32 := 0#32
  let v381 : BitVec 32 := Scalar.addi v380 c0_i32_237
  let v382 : Index := Scalar.indexCast v381
  let c0_238 : Index := 0#32
  ![v382.toNat, 0]
def k0_off11 (d0 : Dev nD) (c0_i32_99 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_98 : BitVec 32 := 1#32
  let v164 : BitVec 32 := Scalar.addi v2 c1_i32_98
  let v165 : BitVec 32 := Scalar.addi v164 c0_i32_99
  let c16_i32_100 : BitVec 32 := 16#32
  let c0_i32_101 : BitVec 32 := 0#32
  let v166 : BitVec 1 := Scalar.cmpi .eq c16_i32_100 c0_i32_101
  let c1_i32_102 : BitVec 32 := 1#32
  let v167 : BitVec 32 := Scalar.select v166 c1_i32_102 c16_i32_100
  let v168 : BitVec 32 := Scalar.remsi v165 v167
  let c0_i32_104 : BitVec 32 := 0#32
  let v170 : BitVec 1 := Scalar.cmpi .slt v168 c0_i32_104
  let c0_i32_105 : BitVec 32 := 0#32
  let v171 : BitVec 1 := Scalar.cmpi .slt v167 c0_i32_105
  let v172 : BitVec 1 := Scalar.xori v170 v171
  let c0_i32_103 : BitVec 32 := 0#32
  let v169 : BitVec 1 := Scalar.cmpi .ne v168 c0_i32_103
  let v173 : BitVec 1 := Scalar.andi v172 v169
  let v174 : BitVec 32 := Scalar.addi v168 v167
  let v175 : BitVec 32 := Scalar.select v173 v174 v168
  let c16_i32_239 : BitVec 32 := 16#32
  let c0_i32_240 : BitVec 32 := 0#32
  let v384 : BitVec 1 := Scalar.cmpi .eq c16_i32_239 c0_i32_240
  let c1_i32_241 : BitVec 32 := 1#32
  let v385 : BitVec 32 := Scalar.select v384 c1_i32_241 c16_i32_239
  let v386 : BitVec 32 := Scalar.remsi v175 v385
  let c0_i32_243 : BitVec 32 := 0#32
  let v388 : BitVec 1 := Scalar.cmpi .slt v386 c0_i32_243
  let c0_i32_244 : BitVec 32 := 0#32
  let v389 : BitVec 1 := Scalar.cmpi .slt v385 c0_i32_244
  let v390 : BitVec 1 := Scalar.xori v388 v389
  let c0_i32_242 : BitVec 32 := 0#32
  let v387 : BitVec 1 := Scalar.cmpi .ne v386 c0_i32_242
  let v391 : BitVec 1 := Scalar.andi v390 v387
  let v392 : BitVec 32 := Scalar.addi v386 v385
  let v393 : BitVec 32 := Scalar.select v391 v392 v386
  let c256_i32_245 : BitVec 32 := 256#32
  let v394 : BitVec 32 := Scalar.muli v393 c256_i32_245
  let c0_i32_246 : BitVec 32 := 0#32
  let v395 : BitVec 32 := Scalar.addi v394 c0_i32_246
  let v396 : Index := Scalar.indexCast v395
  let c0_247 : Index := 0#32
  ![v396.toNat, 0]
def k0_off12 (d0 : Dev nD) (c0_i32_99 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_98 : BitVec 32 := 1#32
  let v164 : BitVec 32 := Scalar.addi v2 c1_i32_98
  let v165 : BitVec 32 := Scalar.addi v164 c0_i32_99
  let c16_i32_100 : BitVec 32 := 16#32
  let c0_i32_101 : BitVec 32 := 0#32
  let v166 : BitVec 1 := Scalar.cmpi .eq c16_i32_100 c0_i32_101
  let c1_i32_102 : BitVec 32 := 1#32
  let v167 : BitVec 32 := Scalar.select v166 c1_i32_102 c16_i32_100
  let v168 : BitVec 32 := Scalar.remsi v165 v167
  let c0_i32_104 : BitVec 32 := 0#32
  let v170 : BitVec 1 := Scalar.cmpi .slt v168 c0_i32_104
  let c0_i32_105 : BitVec 32 := 0#32
  let v171 : BitVec 1 := Scalar.cmpi .slt v167 c0_i32_105
  let v172 : BitVec 1 := Scalar.xori v170 v171
  let c0_i32_103 : BitVec 32 := 0#32
  let v169 : BitVec 1 := Scalar.cmpi .ne v168 c0_i32_103
  let v173 : BitVec 1 := Scalar.andi v172 v169
  let v174 : BitVec 32 := Scalar.addi v168 v167
  let v175 : BitVec 32 := Scalar.select v173 v174 v168
  let c16_i32_255 : BitVec 32 := 16#32
  let c0_i32_256 : BitVec 32 := 0#32
  let v414 : BitVec 1 := Scalar.cmpi .eq c16_i32_255 c0_i32_256
  let c1_i32_257 : BitVec 32 := 1#32
  let v415 : BitVec 32 := Scalar.select v414 c1_i32_257 c16_i32_255
  let v416 : BitVec 32 := Scalar.remsi v175 v415
  let c0_i32_259 : BitVec 32 := 0#32
  let v418 : BitVec 1 := Scalar.cmpi .slt v416 c0_i32_259
  let c0_i32_260 : BitVec 32 := 0#32
  let v419 : BitVec 1 := Scalar.cmpi .slt v415 c0_i32_260
  let v420 : BitVec 1 := Scalar.xori v418 v419
  let c0_i32_258 : BitVec 32 := 0#32
  let v417 : BitVec 1 := Scalar.cmpi .ne v416 c0_i32_258
  let v421 : BitVec 1 := Scalar.andi v420 v417
  let v422 : BitVec 32 := Scalar.addi v416 v415
  let v423 : BitVec 32 := Scalar.select v421 v422 v416
  let c256_i32_261 : BitVec 32 := 256#32
  let v424 : BitVec 32 := Scalar.muli v423 c256_i32_261
  let c0_i32_262 : BitVec 32 := 0#32
  let v425 : BitVec 32 := Scalar.addi v424 c0_i32_262
  let v426 : Index := Scalar.indexCast v425
  let c0_263 : Index := 0#32
  ![v426.toNat, 0]
def k0_dev7 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_331 : BitVec 32 := 1#32
  let v527 : BitVec 32 := Scalar.muli v25 c1_i32_331
  let v528 : BitVec 32 := Scalar.addi c0_i32_332 v527
  v528.toNat
def k0_dev8 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_385 : BitVec 32 := 1#32
  let v609 : BitVec 32 := Scalar.muli v14 c1_i32_385
  let v610 : BitVec 32 := Scalar.addi c0_i32_386 v609
  v610.toNat
def k0_dev9 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_505 : BitVec 32 := 1#32
  let v804 : BitVec 32 := Scalar.muli v25 c1_i32_505
  let v805 : BitVec 32 := Scalar.addi c0_i32_506 v804
  v805.toNat
def k0_dev10 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_559 : BitVec 32 := 1#32
  let v886 : BitVec 32 := Scalar.muli v14 c1_i32_559
  let v887 : BitVec 32 := Scalar.addi c0_i32_560 v886
  v887.toNat
def k0_dev11 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_679 : BitVec 32 := 1#32
  let v1081 : BitVec 32 := Scalar.muli v25 c1_i32_679
  let v1082 : BitVec 32 := Scalar.addi c0_i32_680 v1081
  v1082.toNat
def k0_dev12 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_733 : BitVec 32 := 1#32
  let v1163 : BitVec 32 := Scalar.muli v14 c1_i32_733
  let v1164 : BitVec 32 := Scalar.addi c0_i32_734 v1163
  v1164.toNat
def k0_dev13 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_853 : BitVec 32 := 1#32
  let v1358 : BitVec 32 := Scalar.muli v25 c1_i32_853
  let v1359 : BitVec 32 := Scalar.addi c0_i32_854 v1358
  v1359.toNat
def k0_dev14 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_907 : BitVec 32 := 1#32
  let v1440 : BitVec 32 := Scalar.muli v14 c1_i32_907
  let v1441 : BitVec 32 := Scalar.addi c0_i32_908 v1440
  v1441.toNat
def k0_dev15 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1027 : BitVec 32 := 1#32
  let v1635 : BitVec 32 := Scalar.muli v25 c1_i32_1027
  let v1636 : BitVec 32 := Scalar.addi c0_i32_1028 v1635
  v1636.toNat
def k0_dev16 (d0 : Dev nD) : Nat :=
  let c0_i32_1082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1081 : BitVec 32 := 1#32
  let v1717 : BitVec 32 := Scalar.muli v14 c1_i32_1081
  let v1718 : BitVec 32 := Scalar.addi c0_i32_1082 v1717
  v1718.toNat
def k0_off13 (d0 : Dev nD) (c6_i32_1137 : BitVec 32) (c0_i32_1200 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1135 : BitVec 32 := 16#32
  let v1813 : BitVec 32 := Scalar.addi v2 c16_i32_1135
  let c1_i32_1136 : BitVec 32 := 1#32
  let v1814 : BitVec 32 := Scalar.subi v1813 c1_i32_1136
  let v1815 : BitVec 32 := Scalar.subi v1814 c6_i32_1137
  let c16_i32_1138 : BitVec 32 := 16#32
  let c0_i32_1139 : BitVec 32 := 0#32
  let v1816 : BitVec 1 := Scalar.cmpi .eq c16_i32_1138 c0_i32_1139
  let c1_i32_1140 : BitVec 32 := 1#32
  let v1817 : BitVec 32 := Scalar.select v1816 c1_i32_1140 c16_i32_1138
  let v1818 : BitVec 32 := Scalar.remsi v1815 v1817
  let c0_i32_1142 : BitVec 32 := 0#32
  let v1820 : BitVec 1 := Scalar.cmpi .slt v1818 c0_i32_1142
  let c0_i32_1143 : BitVec 32 := 0#32
  let v1821 : BitVec 1 := Scalar.cmpi .slt v1817 c0_i32_1143
  let v1822 : BitVec 1 := Scalar.xori v1820 v1821
  let c0_i32_1141 : BitVec 32 := 0#32
  let v1819 : BitVec 1 := Scalar.cmpi .ne v1818 c0_i32_1141
  let v1823 : BitVec 1 := Scalar.andi v1822 v1819
  let v1824 : BitVec 32 := Scalar.addi v1818 v1817
  let v1825 : BitVec 32 := Scalar.select v1823 v1824 v1818
  let c16_i32_1193 : BitVec 32 := 16#32
  let c0_i32_1194 : BitVec 32 := 0#32
  let v1900 : BitVec 1 := Scalar.cmpi .eq c16_i32_1193 c0_i32_1194
  let c1_i32_1195 : BitVec 32 := 1#32
  let v1901 : BitVec 32 := Scalar.select v1900 c1_i32_1195 c16_i32_1193
  let v1902 : BitVec 32 := Scalar.remsi v1825 v1901
  let c0_i32_1197 : BitVec 32 := 0#32
  let v1904 : BitVec 1 := Scalar.cmpi .slt v1902 c0_i32_1197
  let c0_i32_1198 : BitVec 32 := 0#32
  let v1905 : BitVec 1 := Scalar.cmpi .slt v1901 c0_i32_1198
  let v1906 : BitVec 1 := Scalar.xori v1904 v1905
  let c0_i32_1196 : BitVec 32 := 0#32
  let v1903 : BitVec 1 := Scalar.cmpi .ne v1902 c0_i32_1196
  let v1907 : BitVec 1 := Scalar.andi v1906 v1903
  let v1908 : BitVec 32 := Scalar.addi v1902 v1901
  let v1909 : BitVec 32 := Scalar.select v1907 v1908 v1902
  let c256_i32_1199 : BitVec 32 := 256#32
  let v1910 : BitVec 32 := Scalar.muli v1909 c256_i32_1199
  let v1911 : BitVec 32 := Scalar.addi v1910 c0_i32_1200
  let c0_i32_1203 : BitVec 32 := 0#32
  ![v1911.toNat, 0]
def k0_off13_at (r : Fin 3) : BitVec 32 × BitVec 32 :=
  if r.val < 1 then
    (6#32, 0#32)
  else
    if r.val < 2 then
      (7#32, 0#32)
    else
      (7#32, 128#32)
def k0_dev17 (d0 : Dev nD) : Nat :=
  let c0_i32_1202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1201 : BitVec 32 := 1#32
  let v1912 : BitVec 32 := Scalar.muli v25 c1_i32_1201
  let v1913 : BitVec 32 := Scalar.addi c0_i32_1202 v1912
  v1913.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1144 : BitVec 32 := 1#32
  let v1826 : BitVec 32 := Scalar.addi v2 c1_i32_1144
  let c6_i32_1145 : BitVec 32 := 6#32
  let v1827 : BitVec 32 := Scalar.addi v1826 c6_i32_1145
  let c16_i32_1146 : BitVec 32 := 16#32
  let c0_i32_1147 : BitVec 32 := 0#32
  let v1828 : BitVec 1 := Scalar.cmpi .eq c16_i32_1146 c0_i32_1147
  let c1_i32_1148 : BitVec 32 := 1#32
  let v1829 : BitVec 32 := Scalar.select v1828 c1_i32_1148 c16_i32_1146
  let v1830 : BitVec 32 := Scalar.remsi v1827 v1829
  let c0_i32_1150 : BitVec 32 := 0#32
  let v1832 : BitVec 1 := Scalar.cmpi .slt v1830 c0_i32_1150
  let c0_i32_1151 : BitVec 32 := 0#32
  let v1833 : BitVec 1 := Scalar.cmpi .slt v1829 c0_i32_1151
  let v1834 : BitVec 1 := Scalar.xori v1832 v1833
  let c0_i32_1149 : BitVec 32 := 0#32
  let v1831 : BitVec 1 := Scalar.cmpi .ne v1830 c0_i32_1149
  let v1835 : BitVec 1 := Scalar.andi v1834 v1831
  let v1836 : BitVec 32 := Scalar.addi v1830 v1829
  let v1837 : BitVec 32 := Scalar.select v1835 v1836 v1830
  let c16_i32_1239 : BitVec 32 := 16#32
  let c0_i32_1240 : BitVec 32 := 0#32
  let v1972 : BitVec 1 := Scalar.cmpi .eq c16_i32_1239 c0_i32_1240
  let c1_i32_1241 : BitVec 32 := 1#32
  let v1973 : BitVec 32 := Scalar.select v1972 c1_i32_1241 c16_i32_1239
  let v1974 : BitVec 32 := Scalar.remsi v1837 v1973
  let c0_i32_1243 : BitVec 32 := 0#32
  let v1976 : BitVec 1 := Scalar.cmpi .slt v1974 c0_i32_1243
  let c0_i32_1244 : BitVec 32 := 0#32
  let v1977 : BitVec 1 := Scalar.cmpi .slt v1973 c0_i32_1244
  let v1978 : BitVec 1 := Scalar.xori v1976 v1977
  let c0_i32_1242 : BitVec 32 := 0#32
  let v1975 : BitVec 1 := Scalar.cmpi .ne v1974 c0_i32_1242
  let v1979 : BitVec 1 := Scalar.andi v1978 v1975
  let v1980 : BitVec 32 := Scalar.addi v1974 v1973
  let v1981 : BitVec 32 := Scalar.select v1979 v1980 v1974
  let c256_i32_1245 : BitVec 32 := 256#32
  let v1982 : BitVec 32 := Scalar.muli v1981 c256_i32_1245
  let c128_i32_1246 : BitVec 32 := 128#32
  let v1983 : BitVec 32 := Scalar.addi v1982 c128_i32_1246
  let c0_i32_1251 : BitVec 32 := 0#32
  ![v1983.toNat, 0]
def k0_dev18 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1249 : BitVec 32 := 1#32
  let v1984 : BitVec 32 := Scalar.muli v14 c1_i32_1249
  let v1985 : BitVec 32 := Scalar.addi c0_i32_1250 v1984
  v1985.toNat
def k0_off15 (d0 : Dev nD) (c0_i32_1346 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1303 : BitVec 32 := 16#32
  let v2080 : BitVec 32 := Scalar.addi v2 c16_i32_1303
  let c1_i32_1304 : BitVec 32 := 1#32
  let v2081 : BitVec 32 := Scalar.subi v2080 c1_i32_1304
  let c7_i32_1305 : BitVec 32 := 7#32
  let v2082 : BitVec 32 := Scalar.subi v2081 c7_i32_1305
  let c16_i32_1306 : BitVec 32 := 16#32
  let c0_i32_1307 : BitVec 32 := 0#32
  let v2083 : BitVec 1 := Scalar.cmpi .eq c16_i32_1306 c0_i32_1307
  let c1_i32_1308 : BitVec 32 := 1#32
  let v2084 : BitVec 32 := Scalar.select v2083 c1_i32_1308 c16_i32_1306
  let v2085 : BitVec 32 := Scalar.remsi v2082 v2084
  let c0_i32_1310 : BitVec 32 := 0#32
  let v2087 : BitVec 1 := Scalar.cmpi .slt v2085 c0_i32_1310
  let c0_i32_1311 : BitVec 32 := 0#32
  let v2088 : BitVec 1 := Scalar.cmpi .slt v2084 c0_i32_1311
  let v2089 : BitVec 1 := Scalar.xori v2087 v2088
  let c0_i32_1309 : BitVec 32 := 0#32
  let v2086 : BitVec 1 := Scalar.cmpi .ne v2085 c0_i32_1309
  let v2090 : BitVec 1 := Scalar.andi v2089 v2086
  let v2091 : BitVec 32 := Scalar.addi v2085 v2084
  let v2092 : BitVec 32 := Scalar.select v2090 v2091 v2085
  let c16_i32_1339 : BitVec 32 := 16#32
  let c0_i32_1340 : BitVec 32 := 0#32
  let v2133 : BitVec 1 := Scalar.cmpi .eq c16_i32_1339 c0_i32_1340
  let c1_i32_1341 : BitVec 32 := 1#32
  let v2134 : BitVec 32 := Scalar.select v2133 c1_i32_1341 c16_i32_1339
  let v2135 : BitVec 32 := Scalar.remsi v2092 v2134
  let c0_i32_1343 : BitVec 32 := 0#32
  let v2137 : BitVec 1 := Scalar.cmpi .slt v2135 c0_i32_1343
  let c0_i32_1344 : BitVec 32 := 0#32
  let v2138 : BitVec 1 := Scalar.cmpi .slt v2134 c0_i32_1344
  let v2139 : BitVec 1 := Scalar.xori v2137 v2138
  let c0_i32_1342 : BitVec 32 := 0#32
  let v2136 : BitVec 1 := Scalar.cmpi .ne v2135 c0_i32_1342
  let v2140 : BitVec 1 := Scalar.andi v2139 v2136
  let v2141 : BitVec 32 := Scalar.addi v2135 v2134
  let v2142 : BitVec 32 := Scalar.select v2140 v2141 v2135
  let c256_i32_1345 : BitVec 32 := 256#32
  let v2143 : BitVec 32 := Scalar.muli v2142 c256_i32_1345
  let v2144 : BitVec 32 := Scalar.addi v2143 c0_i32_1346
  let v2145 : Index := Scalar.indexCast v2144
  let c0_1347 : Index := 0#32
  ![v2145.toNat, 0]
def k0_off16 (d0 : Dev nD) (c0_i32_1362 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1303 : BitVec 32 := 16#32
  let v2080 : BitVec 32 := Scalar.addi v2 c16_i32_1303
  let c1_i32_1304 : BitVec 32 := 1#32
  let v2081 : BitVec 32 := Scalar.subi v2080 c1_i32_1304
  let c7_i32_1305 : BitVec 32 := 7#32
  let v2082 : BitVec 32 := Scalar.subi v2081 c7_i32_1305
  let c16_i32_1306 : BitVec 32 := 16#32
  let c0_i32_1307 : BitVec 32 := 0#32
  let v2083 : BitVec 1 := Scalar.cmpi .eq c16_i32_1306 c0_i32_1307
  let c1_i32_1308 : BitVec 32 := 1#32
  let v2084 : BitVec 32 := Scalar.select v2083 c1_i32_1308 c16_i32_1306
  let v2085 : BitVec 32 := Scalar.remsi v2082 v2084
  let c0_i32_1310 : BitVec 32 := 0#32
  let v2087 : BitVec 1 := Scalar.cmpi .slt v2085 c0_i32_1310
  let c0_i32_1311 : BitVec 32 := 0#32
  let v2088 : BitVec 1 := Scalar.cmpi .slt v2084 c0_i32_1311
  let v2089 : BitVec 1 := Scalar.xori v2087 v2088
  let c0_i32_1309 : BitVec 32 := 0#32
  let v2086 : BitVec 1 := Scalar.cmpi .ne v2085 c0_i32_1309
  let v2090 : BitVec 1 := Scalar.andi v2089 v2086
  let v2091 : BitVec 32 := Scalar.addi v2085 v2084
  let v2092 : BitVec 32 := Scalar.select v2090 v2091 v2085
  let c16_i32_1355 : BitVec 32 := 16#32
  let c0_i32_1356 : BitVec 32 := 0#32
  let v2163 : BitVec 1 := Scalar.cmpi .eq c16_i32_1355 c0_i32_1356
  let c1_i32_1357 : BitVec 32 := 1#32
  let v2164 : BitVec 32 := Scalar.select v2163 c1_i32_1357 c16_i32_1355
  let v2165 : BitVec 32 := Scalar.remsi v2092 v2164
  let c0_i32_1359 : BitVec 32 := 0#32
  let v2167 : BitVec 1 := Scalar.cmpi .slt v2165 c0_i32_1359
  let c0_i32_1360 : BitVec 32 := 0#32
  let v2168 : BitVec 1 := Scalar.cmpi .slt v2164 c0_i32_1360
  let v2169 : BitVec 1 := Scalar.xori v2167 v2168
  let c0_i32_1358 : BitVec 32 := 0#32
  let v2166 : BitVec 1 := Scalar.cmpi .ne v2165 c0_i32_1358
  let v2170 : BitVec 1 := Scalar.andi v2169 v2166
  let v2171 : BitVec 32 := Scalar.addi v2165 v2164
  let v2172 : BitVec 32 := Scalar.select v2170 v2171 v2165
  let c256_i32_1361 : BitVec 32 := 256#32
  let v2173 : BitVec 32 := Scalar.muli v2172 c256_i32_1361
  let v2174 : BitVec 32 := Scalar.addi v2173 c0_i32_1362
  let v2175 : Index := Scalar.indexCast v2174
  let c0_1363 : Index := 0#32
  ![v2175.toNat, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Prog.lean ====
/- The kernel body written as a short program: one step for a local wait, one for a remote copy, one for a block of
   the product, and the eight hops of the two rings spelt over the hop's number. `body_eq` says that the printed body
   is this program. -/
module

public import proofs.«01_k».proof.Proof.Gen.KernelIdeal.Skeleton
public import Idealize.ShloMosaic.Lib.Pipeline.Regions

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- A program of a TensorCore. -/
abbrev TProg (F : FTy → Type) := Prog (TpuEff nD τ sig (Elt F) Λ₀ .tc) PUnit

/-! ## The buffers -/

/-- The block of `x` held by the device, its columns of `w`, its result, and the buffer all blocks of `x` gather in. -/
abbrev xM : Memref sig .tc .vmem S256x4096 .bf16 := Memref.whole cc0_stg0_0
abbrev wM : Memref sig .tc .vmem S4096x512 .bf16 := Memref.whole cc0_stg1_0
abbrev oM : Memref sig .tc .vmem S4096x512 .f32 := Memref.whole cc0_stg2_0
abbrev gM : Memref sig .tc .vmem S4096x4096 .bf16 := Memref.whole cc0_scratch0

/-- 256 rows, and 128 rows, of the gathering buffer from an offset. -/
abbrev rows (off : Fin 2 → ℕ) (h : ∀ a, off a + S256x4096.size a ≤ S4096x4096.size a) : Memref sig .tc .vmem S256x4096 .bf16 :=
  gM.slice (Rect.unit (s := S4096x4096) off S256x4096.size h) (fun _ => rfl)
abbrev half (off : Fin 2 → ℕ) (h : ∀ a, off a + S128x4096.size a ≤ S4096x4096.size a) : Memref sig .tc .vmem S128x4096 .bf16 :=
  gM.slice (Rect.unit (s := S4096x4096) off S128x4096.size h) (fun _ => rfl)

abbrev RowWords (off : Fin 2 → ℕ) (h : ∀ a, off a + S256x4096.size a ≤ S4096x4096.size a) : Prop :=
  (Rect.unit (s := S4096x4096) off S256x4096.size h).WholeWords (EltTy.packing .bf16)
abbrev HalfWords (off : Fin 2 → ℕ) (h : ∀ a, off a + S128x4096.size a ≤ S4096x4096.size a) : Prop :=
  (Rect.unit (s := S4096x4096) off S128x4096.size h).WholeWords (EltTy.packing .bf16)

/-- One semaphore of the right-going sends, of the left-going sends, of the arrivals. -/
abbrev semR (k : Fin 1 → ℕ) (h : ∀ a, k a + S1.size a ≤ S8.size a) : DmaSem sig :=
  ((cc0_scratch1.slice (Rect.unit (s := S8) k S1.size h)).squeeze S_ squeezes_S1_S_).sem
abbrev semL (k : Fin 1 → ℕ) (h : ∀ a, k a + S1.size a ≤ S8.size a) : DmaSem sig :=
  ((cc0_scratch2.slice (Rect.unit (s := S8) k S1.size h)).squeeze S_ squeezes_S1_S_).sem
abbrev semV (k : Fin 1 → ℕ) (h : ∀ a, k a + S1.size a ≤ S16.size a) : DmaSem sig :=
  ((cc0_scratch3.slice (Rect.unit (s := S16) k S1.size h)).squeeze S_ squeezes_S1_S_).sem
abbrev semH : DmaSem sig :=
  ((cc0_scratch4.slice (Rect.unit (s := S1) ![0] S1.size inb_S1_S1_0)).squeeze S_ squeezes_S1_S_).sem
/-- The barrier's semaphore. -/
abbrev barS : Sem sig := (SemArray.scalar (sig.barrier 0 rfl) : Sems sig S_).sem

/-! ## The steps -/

/-- Wait until 256 rows (128 rows) have arrived, or have left. -/
def waitRows (s : DmaSem sig) (off : Fin 2 → ℕ) (h : ∀ a, off a + S256x4096.size a ≤ S4096x4096.size a) (hw : RowWords off h) : TProg F :=
  Prog.lift (.waitDma2 s (rows off h) (rows off h)
    ((Memref.isWhole_whole cc0_scratch0).wordExact_slice rfl _ hw) ((Memref.isWhole_whole cc0_scratch0).wordExact_slice rfl _ hw))
def waitHalf (s : DmaSem sig) (off : Fin 2 → ℕ) (h : ∀ a, off a + S128x4096.size a ≤ S4096x4096.size a) (hw : HalfWords off h) : TProg F :=
  Prog.lift (.waitDma2 s (half off h) (half off h)
    ((Memref.isWhole_whole cc0_scratch0).wordExact_slice rfl _ hw) ((Memref.isWhole_whole cc0_scratch0).wordExact_slice rfl _ hw))
/-- Wait until the device's own block of `x` has left. -/
def waitOwn (s : DmaSem sig) (off : Fin 2 → ℕ) (h : ∀ a, off a + S256x4096.size a ≤ S4096x4096.size a) (hw : RowWords off h) : TProg F :=
  Prog.lift (.waitDma2 s (rows off h) xM
    ((Memref.isWhole_whole cc0_scratch0).wordExact_slice rfl _ hw) (Memref.isWhole_whole cc0_stg0_0).wordExact)

/-- Copy 256 rows (128 rows) to the same rows of device `d`; copy the device's own block of `x` there. -/
def sendRows (d : Dev nD) (sS sV : DmaSem sig) (off : Fin 2 → ℕ) (h : ∀ a, off a + S256x4096.size a ≤ S4096x4096.size a) (hw : RowWords off h) : TProg F :=
  Prog.lift (.enqueueDma (rows off h) (.remote (Dev.tc d) (rows off h) (.dma sS)) (.dma sV)
    ((Memref.isWhole_whole cc0_scratch0).wordExact_slice rfl _ hw) ((Memref.isWhole_whole cc0_scratch0).wordExact_slice rfl _ hw)
    ⟨⟨rfl, Or.inl rfl⟩, trivial⟩)
def sendHalf (d : Dev nD) (sS sV : DmaSem sig) (off : Fin 2 → ℕ) (h : ∀ a, off a + S128x4096.size a ≤ S4096x4096.size a) (hw : HalfWords off h) : TProg F :=
  Prog.lift (.enqueueDma (half off h) (.remote (Dev.tc d) (half off h) (.dma sS)) (.dma sV)
    ((Memref.isWhole_whole cc0_scratch0).wordExact_slice rfl _ hw) ((Memref.isWhole_whole cc0_scratch0).wordExact_slice rfl _ hw)
    ⟨⟨rfl, Or.inl rfl⟩, trivial⟩)
def sendOwn (d : Dev nD) (sS sV : DmaSem sig) (off : Fin 2 → ℕ) (h : ∀ a, off a + S256x4096.size a ≤ S4096x4096.size a) (hw : RowWords off h) : TProg F :=
  Prog.lift (.enqueueDma xM (.remote (Dev.tc d) (rows off h) (.dma sS)) (.dma sV)
    (Memref.isWhole_whole cc0_stg0_0).wordExact ((Memref.isWhole_whole cc0_scratch0).wordExact_slice rfl _ hw)
    ⟨⟨rfl, Or.inl rfl⟩, trivial⟩)

/-- Copy the device's own block of `x` into its rows of the gathering buffer. -/
def keepOwn (off : Fin 2 → ℕ) (h : ∀ a, off a + S256x4096.size a ≤ S4096x4096.size a)
    (hp : (Rect.unit (s := S4096x4096) off S256x4096.size h).PackedRows (EltTy.packing .bf16)) : TProg F := do
  let a : Vec F S256x4096 .bf16 ← Prog.lift (.load xM (Rect.unit (s := S256x4096) ![0, 0] S256x4096.size inb_S256x4096_S256x4096_0_0).toLoadRect (View.loadsAt_vmem h_S256x4096))
  let _b : Vec F S256x4096 .bf16 ← Prog.lift (.load gM (Rect.unit (s := S4096x4096) off S256x4096.size h).toLoadRect (View.loadsAt_vmem h_S256x4096))
  Prog.lift (.store gM (Rect.unit (s := S4096x4096) off S256x4096.size h) (k0_pay2 (k0_pay1 a)) Finset.univ
    (View.stores_vmem h_S256x4096 ((Memref.isWhole_whole cc0_scratch0).storeExact_slice rfl _ hp) (fun _ => rfl)) (.inl rfl))

/-- Multiply 256 rows (128 rows) of the gathering buffer by the columns of `w` and store the epilogue of the product. -/
def mulRows (off : Fin 2 → ℕ) (h : ∀ a, off a + S256x4096.size a ≤ S4096x4096.size a)
    (off' : Fin 2 → ℕ) (h' : ∀ a, off' a + S256x512.size a ≤ S4096x512.size a) : TProg F := do
  let a : Vec F S256x4096 .bf16 ← Prog.lift (.load gM (Rect.unit (s := S4096x4096) off S256x4096.size h).toLoadRect (View.loadsAt_vmem h_S256x4096))
  let b : Vec F S4096x512 .bf16 ← Prog.lift (.load wM (Rect.unit (s := S4096x512) ![0, 0] S4096x512.size inb_S4096x512_S4096x512_0_0).toLoadRect (View.loadsAt_vmem h_S4096x512))
  let _o : Vec F S256x512 .f32 ← Prog.lift (.load oM (Rect.unit (s := S4096x512) off' S256x512.size h').toLoadRect (View.loadsAt_vmem h_S256x512))
  Prog.lift (.store oM (Rect.unit (s := S4096x512) off' S256x512.size h') (k0_pay3 a b) Finset.univ (View.stores_vmem_bits_univ h_S256x512 rfl) (.inl rfl))
def mulHalf (off : Fin 2 → ℕ) (h : ∀ a, off a + S128x4096.size a ≤ S4096x4096.size a)
    (off' : Fin 2 → ℕ) (h' : ∀ a, off' a + S128x512.size a ≤ S4096x512.size a) : TProg F := do
  let a : Vec F S128x4096 .bf16 ← Prog.lift (.load gM (Rect.unit (s := S4096x4096) off S128x4096.size h).toLoadRect (View.loadsAt_vmem h_S128x4096))
  let b : Vec F S4096x512 .bf16 ← Prog.lift (.load wM (Rect.unit (s := S4096x512) ![0, 0] S4096x512.size inb_S4096x512_S4096x512_0_0).toLoadRect (View.loadsAt_vmem h_S4096x512))
  let _o : Vec F S128x512 .f32 ← Prog.lift (.load oM (Rect.unit (s := S4096x512) off' S128x512.size h').toLoadRect (View.loadsAt_vmem h_S128x512))
  Prog.lift (.store oM (Rect.unit (s := S4096x512) off' S128x512.size h') (k0_pay30 a b) Finset.univ (View.stores_vmem_bits_univ h_S128x512 rfl) (.inl rfl))

/-! ## The body over the printed devices and offsets -/

/-- The barrier: a unit to the device on the left, a unit to the device on the right, two units awaited. -/
def handshake (l r : Dev nD) : TProg F := do
  semSignalWord l barS 1#32
  semSignalWord r barS 1#32
  semWaitWord barS 2#32

abbrev word (h : Fin 7) : BitVec 32 := BitVec.ofNat 32 h.val

/-- A hop forwarding whole blocks: `r`, `l` the devices to the right and to the left as the hop computes them, `k` the
    send semaphores of the next hop. -/
def hopAt (r l : Dev nD) (d : Dev nD) (h : Fin 7) (k : Fin 1 → ℕ) (hk : ∀ a, k a + S1.size a ≤ S8.size a) : TProg F := do
  waitRows (semV (k0_off5 d (word h)) (k0_off5_inb d h.castSucc)) (k0_off6 d (word h)) (k0_off6_inb d h) (k0_off6_wordsbf16 d h)
  sendRows r (semR k hk) (semV (k0_off5 d (word h)) (k0_off5_inb d h.castSucc)) (k0_off6 d (word h)) (k0_off6_inb d h) (k0_off6_wordsbf16 d h)
  waitRows (semV (k0_off7 d (word h)) (k0_off7_inb d h)) (k0_off8 d (word h)) (k0_off8_inb d h) (k0_off8_wordsbf16 d h)
  sendRows l (semL k hk) (semV (k0_off7 d (word h)) (k0_off7_inb d h)) (k0_off8 d (word h)) (k0_off8_inb d h) (k0_off8_wordsbf16 d h)
  mulRows (k0_off9 d (word h)) (k0_off9_inb d h) (k0_off10 d (word h)) (k0_off10_inb d h)
  mulRows (k0_off11 d (word h)) (k0_off11_inb d h) (k0_off12 d (word h)) (k0_off12_inb d h)

/-- The hop forwarding half a block each way. -/
def hopLast (r l : Dev nD) (d : Dev nD) : TProg F := do
  waitRows (semV (k0_off5 d 6#32) (k0_off5_inb d 6)) (k0_off6 d 6#32) (k0_off6_inb d 6) (k0_off6_wordsbf16 d 6)
  sendHalf r (semR ![7] inb_S8_S1_7) (semV (k0_off5 d 6#32) (k0_off5_inb d 6)) (k0_off13 d 6#32 0#32) (k0_off13_inb d 0) (k0_off13_wordsbf16 d 0)
  waitRows (semV (k0_off7 d 6#32) (k0_off7_inb d 6)) (k0_off8 d 6#32) (k0_off8_inb d 6) (k0_off8_wordsbf16 d 6)
  sendHalf l (semL ![7] inb_S8_S1_7) semH (k0_off14 d) (k0_off14_inb d) (k0_off14_wordsbf16 d)
  mulRows (k0_off9 d 6#32) (k0_off9_inb d 6) (k0_off10 d 6#32) (k0_off10_inb d 6)
  mulRows (k0_off11 d 6#32) (k0_off11_inb d 6) (k0_off12 d 6#32) (k0_off12_inb d 6)

/-- The hop at which the opposite device's block arrives in halves. -/
def hopEnd (d : Dev nD) : TProg F := do
  waitHalf (semV (k0_off5 d 7#32) (k0_off5_inb d 7)) (k0_off13 d 7#32 0#32) (k0_off13_inb d 1) (k0_off13_wordsbf16 d 1)
  mulHalf (k0_off15 d 0#32) (k0_off15_inb d 0) (k0_off16 d 0#32) (k0_off16_inb d 0)
  waitHalf semH (k0_off13 d 7#32 128#32) (k0_off13_inb d 2) (k0_off13_wordsbf16 d 2)
  mulHalf (k0_off15 d 128#32) (k0_off15_inb d 1) (k0_off16 d 128#32) (k0_off16_inb d 1)

/-- Wait until what was forwarded at one hop has left. -/
def drainAt (d : Dev nD) (h : Fin 7) (k : Fin 1 → ℕ) (hk : ∀ a, k a + S1.size a ≤ S8.size a) : TProg F := do
  waitRows (semR k hk) (k0_off6 d (word h)) (k0_off6_inb d h) (k0_off6_wordsbf16 d h)
  waitRows (semL k hk) (k0_off8 d (word h)) (k0_off8_inb d h) (k0_off8_wordsbf16 d h)

abbrev devOf (f : Dev nD → ℕ) (h : ∀ d, f d < nD) (d : Dev nD) : Dev nD := ⟨f d, h d⟩

/-- The first copies, the device's own block. -/
def opening (d : Dev nD) : TProg F := do
  sendOwn (devOf k0_dev3 k0_dev3_lt d) (semR ![0] inb_S8_S1_0) (semV (k0_off1 d) (k0_off1_inb d)) (k0_off2 d) (k0_off2_inb d) (k0_off2_wordsbf16 d)
  sendOwn (devOf k0_dev4 k0_dev4_lt d) (semL ![0] inb_S8_S1_0) (semV (k0_off1 d) (k0_off1_inb d)) (k0_off2 d) (k0_off2_inb d) (k0_off2_wordsbf16 d)
  keepOwn (k0_off3 d) (k0_off3_inb d) (k0_off3_packedbf16 d)
  mulRows (k0_off3 d) (k0_off3_inb d) (k0_off4 d) (k0_off4_inb d)

def front (d : Dev nD) : TProg F := do
  handshake (devOf k0_dev1 k0_dev1_lt d) (devOf k0_dev2 k0_dev2_lt d)
  opening d

def middle (d : Dev nD) : TProg F := do
  hopAt (devOf k0_dev5 k0_dev5_lt d) (devOf k0_dev6 k0_dev6_lt d) d 0 ![1] inb_S8_S1_1
  hopAt (devOf k0_dev7 k0_dev7_lt d) (devOf k0_dev8 k0_dev8_lt d) d 1 ![2] inb_S8_S1_2
  hopAt (devOf k0_dev9 k0_dev9_lt d) (devOf k0_dev10 k0_dev10_lt d) d 2 ![3] inb_S8_S1_3
  hopAt (devOf k0_dev11 k0_dev11_lt d) (devOf k0_dev12 k0_dev12_lt d) d 3 ![4] inb_S8_S1_4
  hopAt (devOf k0_dev13 k0_dev13_lt d) (devOf k0_dev14 k0_dev14_lt d) d 4 ![5] inb_S8_S1_5
  hopAt (devOf k0_dev15 k0_dev15_lt d) (devOf k0_dev16 k0_dev16_lt d) d 5 ![6] inb_S8_S1_6

def back (d : Dev nD) : TProg F := do
  hopLast (devOf k0_dev17 k0_dev17_lt d) (devOf k0_dev18 k0_dev18_lt d) d
  hopEnd d

/-- Wait until the half blocks forwarded have left. -/
def drainLast (d : Dev nD) : TProg F := do
  waitHalf (semR ![7] inb_S8_S1_7) (k0_off13 d 6#32 0#32) (k0_off13_inb d 0) (k0_off13_wordsbf16 d 0)
  waitHalf (semL ![7] inb_S8_S1_7) (k0_off14 d) (k0_off14_inb d) (k0_off14_wordsbf16 d)

def drain (d : Dev nD) : TProg F := do
  waitOwn (semR ![0] inb_S8_S1_0) (k0_off2 d) (k0_off2_inb d) (k0_off2_wordsbf16 d)
  waitOwn (semL ![0] inb_S8_S1_0) (k0_off2 d) (k0_off2_inb d) (k0_off2_wordsbf16 d)
  drainAt d 0 ![1] inb_S8_S1_1
  drainAt d 1 ![2] inb_S8_S1_2
  drainAt d 2 ![3] inb_S8_S1_3
  drainAt d 3 ![4] inb_S8_S1_4
  drainAt d 4 ![5] inb_S8_S1_5
  drainAt d 5 ![6] inb_S8_S1_6
  drainLast d

def printed (d : Dev nD) : TProg F := do
  front d
  middle d
  back d
  drain d

abbrev bodyCall : TProg F :=
  cc0_body xM (Memref.isWhole_whole _) wM (Memref.isWhole_whole _) oM (Memref.isWhole_whole _) gM (Memref.isWhole_whole _)
    cc0_scratch1 cc0_scratch2 cc0_scratch3 cc0_scratch4

set_option maxRecDepth 65536 in
/-- The printed body is this program. -/
theorem body_eq : bodyCall (F := F) = Prog.op .deviceId fun d => printed d := by
  chain_rfl

end Cert.KernelIdeal.Ring

end
-- ==== Proof.KernelIdeal.Mesh.lean ====
/- The two rings of the sixteen devices: which block travels where at each hop, which rows of the gathering buffer it
   takes, which semaphores count it. The closed forms of the printed devices, offsets and semaphores. -/
module

public import proofs.«01_k».proof.Proof.KernelIdeal.Prog

@[expose] public section

noncomputable section

namespace Cert.KernelIdeal.Ring

open Idealize.ShloMosaic Idealize.ShloMosaic.TcCoe Idealize.SL.Sem
open Cert.KernelIdeal Cert.KernelIdeal.Gen

/-! ## Neighbours -/

/-- The device a copy in direction `b` goes to (`false`: to the right, `true`: to the left), and the one it comes from. -/
def nx (c : Dev nD) (b : Bool) : Dev nD := Fin.ofNat 16 (c.val + if b then 15 else 1)
def pv (c : Dev nD) (b : Bool) : Dev nD := Fin.ofNat 16 (c.val + if b then 1 else 15)

theorem nx_pv : ∀ (c : Dev nD) (b : Bool), nx (pv c b) b = c := by decide +kernel
theorem pv_nx : ∀ (c : Dev nD) (b : Bool), pv (nx c b) b = c := by decide +kernel

/-- The ring as a permutation of the devices. -/
def turn (b : Bool) : Dev nD ≃ Dev nD := ⟨fun c => nx c b, fun c => pv c b, fun c => pv_nx c b, fun c => nx_pv c b⟩

/-- The device whose block has come to `c` along direction `b` after `n` hops. -/
def org (c : Dev nD) (b : Bool) (n : ℕ) : Dev nD := Fin.ofNat 16 (c.val + if b then n else 16 - n)

/-! ## Rows -/

/-- The first row, and the number of rows, that reach device `c` along direction `b` at hop `h`: a block of 256, at the last
    hop half a block — the first half from the left neighbour, the second from the right one. -/
def lo (c : Dev nD) (b : Bool) (h : Fin 8) : ℕ := 256 * (org c b (h.val + 1)).val + if b && h == 7 then 128 else 0
def len (h : Fin 8) : ℕ := if h = 7 then 128 else 256

/-- The parts of a 4096-row buffer on device `c`: its own block, and what reaches it. -/
abbrev Part : Type := Option (Bool × Fin 8)
def partLo (c : Dev nD) : Part → ℕ
  | none => 256 * c.val
  | some (b, h) => lo c b h
def partLen : Part → ℕ
  | none => 256
  | some (_, h) => len h

theorem part_disjoint : ∀ (c : Dev nD) (p p' : Part), p ≠ p' →
    partLo c p + partLen p ≤ partLo c p' ∨ partLo c p' + partLen p' ≤ partLo c p := by decide +kernel
theorem part_cover : ∀ (c : Dev nD) (k : Fin 32), ∃ p : Part, partLo c p ≤ 128 * k.val ∧ 128 * k.val + 128 ≤ partLo c p + partLen p := by
  decide +kernel
theorem part_inb : ∀ (c : Dev nD) (p : Part), partLo c p + partLen p ≤ 4096 := by decide +kernel

theorem lo_inb (c : Dev nD) (b : Bool) (h : Fin 8) : lo c b h + len h ≤ 4096 := part_inb c (some (b, h))
theorem own_inb (c : Dev nD) : 256 * c.val + 256 ≤ 4096 := part_inb c none

/-- What a device forwards is what it has just received; at the last hop it is half of that. -/
theorem lo_nx_zero : ∀ (c : Dev nD) (b : Bool), lo (nx c b) b 0 = 256 * c.val := by decide +kernel
theorem lo_nx : ∀ (c : Dev nD) (b : Bool) (h : Fin 7), h ≠ 6 → lo (nx c b) b h.succ = lo c b h.castSucc := by decide +kernel
theorem lo_nx_last : ∀ (c : Dev nD) (b : Bool), lo (nx c b) b 7 = lo c b 6 + if b then 128 else 0 := by decide +kernel
theorem len_castSucc : ∀ h : Fin 7, len h.castSucc = 256 := by decide
theorem len_succ : ∀ h : Fin 7, h ≠ 6 → len h.succ = 256 := by decide

/-! ## Semaphores -/

theorem arrival_lt : ∀ c : Dev nD, 19 + c.val < sig.nDmaSem := by decide

/-- The semaphore counting what leaves along direction `b` at hop `h`. -/
def sS (b : Bool) (h : Fin 8) : DmaSem sig := ⟨(if b then 11 else 3) + h.val, by revert b h; decide⟩
/-- The semaphore of device `c` counting what reaches it along direction `b` at hop `h`. -/
def sV (c : Dev nD) (b : Bool) (h : Fin 8) : DmaSem sig :=
  if b && h == 7 then ⟨35, by decide⟩ else ⟨19 + (org c b (h.val + 1)).val, arrival_lt _⟩
/-- The semaphore of device `c` that nothing reaches. -/
def sO (c : Dev nD) : DmaSem sig := ⟨19 + c.val, arrival_lt c⟩

/-! ## The printed devices -/

theorem dev_left : ∀ d : Dev nD, devOf k0_dev1 k0_dev1_lt d = nx d true ∧ devOf k0_dev4 k0_dev4_lt d = nx d true ∧ devOf k0_dev6 k0_dev6_lt d = nx d true
    ∧ devOf k0_dev8 k0_dev8_lt d = nx d true ∧ devOf k0_dev10 k0_dev10_lt d = nx d true ∧ devOf k0_dev12 k0_dev12_lt d = nx d true
    ∧ devOf k0_dev14 k0_dev14_lt d = nx d true ∧ devOf k0_dev16 k0_dev16_lt d = nx d true ∧ devOf k0_dev18 k0_dev18_lt d = nx d true := by decide +kernel
theorem dev_right : ∀ d : Dev nD, devOf k0_dev2 k0_dev2_lt d = nx d false ∧ devOf k0_dev3 k0_dev3_lt d = nx d false ∧ devOf k0_dev5 k0_dev5_lt d = nx d false
    ∧ devOf k0_dev7 k0_dev7_lt d = nx d false ∧ devOf k0_dev9 k0_dev9_lt d = nx d false ∧ devOf k0_dev11 k0_dev11_lt d = nx d false
    ∧ devOf k0_dev13 k0_dev13_lt d = nx d false ∧ devOf k0_dev15 k0_dev15_lt d = nx d false ∧ devOf k0_dev17 k0_dev17_lt d = nx d false := by decide +kernel

/-! ## The printed semaphores -/

theorem semR_eq : ∀ k : Fin 8, ∀ hk, semR ![k.val] hk = sS false k := by decide +kernel
theorem semL_eq : ∀ k : Fin 8, ∀ hk, semL ![k.val] hk = sS true k := by decide +kernel
theorem semV_off1 : ∀ (d : Dev nD) (b : Bool), semV (k0_off1 d) (k0_off1_inb d) = sV (nx d b) b 0 := by decide +kernel
theorem semV_off5 : ∀ (d : Dev nD) (h : Fin 7), semV (k0_off5 d (word h)) (k0_off5_inb d h.castSucc) = sV d false h.castSucc := by decide +kernel
theorem semV_off7 : ∀ (d : Dev nD) (h : Fin 7), semV (k0_off7 d (word h)) (k0_off7_inb d h) = sV d true h.castSucc := by decide +kernel
theorem semV_last : ∀ d : Dev nD, semV (k0_off5 d 7#32) (k0_off5_inb d 7) = sV d false 7 := by decide +kernel
theorem semH_last : ∀ d : Dev nD, semH = sV d true 7 := by decide +kernel
/-- A block keeps its semaphore as it travels; the second half of the last block has one of its own. -/
theorem sV_nx : ∀ (d : Dev nD) (b : Bool) (h : Fin 7), (h = 6 → b = false) → sV (nx d b) b h.succ = sV d b h.castSucc := by decide +kernel

/-! ## The printed offsets -/

theorem off2_eq : ∀ (d : Dev nD) (b : Bool), k0_off2 d = ![lo (nx d b) b 0, 0] := by decide +kernel
theorem off3_eq : ∀ d : Dev nD, k0_off3 d = ![256 * d.val, 0] := by decide +kernel
theorem off4_eq : ∀ d : Dev nD, k0_off4 d = ![256 * d.val, 0] := by decide +kernel
theorem off6_eq : ∀ (d : Dev nD) (h : Fin 7), k0_off6 d (word h) = ![lo d false h.castSucc, 0] := by decide +kernel
theorem off8_eq : ∀ (d : Dev nD) (h : Fin 7), k0_off8 d (word h) = ![lo d true h.castSucc, 0] := by decide +kernel
theorem off9_eq : ∀ (d : Dev nD) (h : Fin 7), k0_off9 d (word h) = ![lo d false h.castSucc, 0] := by decide +kernel
theorem off10_eq : ∀ (d : Dev nD) (h : Fin 7), k0_off10 d (word h) = ![lo d false h.castSucc, 0] := by decide +kernel
theorem off11_eq : ∀ (d : Dev nD) (h : Fin 7), k0_off11 d (word h) = ![lo d true h.castSucc, 0] := by decide +kernel
theorem off12_eq : ∀ (d : Dev nD) (h : Fin 7), k0_off12 d (word h) = ![lo d true h.castSucc, 0] := by decide +kernel
theorem off13_send : ∀ d : Dev nD, k0_off13 d 6#32 0#32 = ![lo (nx d false) false 7, 0] := by decide +kernel
theorem off14_send : ∀ d : Dev nD, k0_off14 d = ![lo (nx d true) true 7, 0] := by decide +kernel
theorem off13_first : ∀ d : Dev nD, k0_off13 d 7#32 0#32 = ![lo d false 7, 0] := by decide +kernel
theorem off13_second : ∀ d : Dev nD, k0_off13 d 7#32 128#32 = ![lo d true 7, 0] := by decide +kernel
theorem off15_first : ∀ d : Dev nD, k0_off15 d 0#32 = ![lo d false 7, 0] := by decide +kernel
theorem off15_second : ∀ d : Dev nD, k0_off15 d 128#32 = ![lo d true 7, 0] := by decide +kernel
theorem off16_first : ∀ d : Dev nD, k0_off16 d 0#32 = ![lo d false 7, 0] := by decide +kernel
theorem off16_second : ∀ d : Dev nD, k0_off16 d 128#32 = ![lo d true 7, 0] := by decide +kernel

end Cert.KernelIdeal.Ring

end
-- ==== Proof.KernelIdeal.Rows.lean ====
/- Rows of the gathering buffer and of the result: the elements a printed rectangle names, what the gathering buffer
   holds once all blocks are in, and what the result holds. -/
module

public import proofs.«01_k».proof.Proof.KernelIdeal.Mesh
public import proofs.«01_k».proof.Proof.Gen.KernelIdeal.Frame
public import Idealize.ShloMosaic.Lib.ValueIdxCore

@[expose] public section

noncomputable section

namespace Cert.KernelIdeal.Ring

open Idealize.ShloMosaic Idealize.ShloMosaic.TcCoe Idealize.SL.Sem
open Idealize.ShloMosaic.ValueIdx
open Cert.KernelIdeal Cert.KernelIdeal.Gen

variable {F : FTy → Type} [FloatOps F]

/-! ## Sets of rows -/

/-- The elements of a rank-2 buffer in `n` rows from row `lo`. -/
def rowSet {s0 s1 : ℕ} (lo n : ℕ) : Finset (⟨2, ![s0, s1]⟩ : Shape).Idx := Finset.univ.filter fun i => lo ≤ (i 0).val ∧ (i 0).val < lo + n

theorem mem_rowSet {s0 s1 lo n : ℕ} (i : (⟨2, ![s0, s1]⟩ : Shape).Idx) : i ∈ rowSet lo n ↔ lo ≤ (i 0).val ∧ (i 0).val < lo + n := by
  unfold rowSet; rw [Finset.mem_filter]; exact and_iff_right (Finset.mem_univ _)

theorem rowSet_disjoint {s0 s1 lo n lo' n' : ℕ} (h : lo + n ≤ lo' ∨ lo' + n' ≤ lo) :
    Disjoint (rowSet lo n : Finset (⟨2, ![s0, s1]⟩ : Shape).Idx) (rowSet lo' n') :=
  Finset.disjoint_left.mpr fun i hi hi' => by rw [mem_rowSet] at hi hi'; omega

theorem rowSet_append {s0 s1 lo n n' : ℕ} :
    (rowSet lo (n + n') : Finset (⟨2, ![s0, s1]⟩ : Shape).Idx) = rowSet lo n ∪ rowSet (lo + n) n' :=
  Finset.ext fun i => by rw [Finset.mem_union, mem_rowSet, mem_rowSet, mem_rowSet]; omega

/-- The parts of a 4096-row buffer are disjoint and make it up. -/
theorem parts_disjoint {s1 : ℕ} (c : Dev nD) (p p' : Part) (h : p ≠ p') :
    Disjoint (rowSet (partLo c p) (partLen p) : Finset (⟨2, ![4096, s1]⟩ : Shape).Idx) (rowSet (partLo c p') (partLen p')) :=
  rowSet_disjoint (part_disjoint c p p' h)

theorem parts_cover {s1 : ℕ} (c : Dev nD) :
    (Finset.univ : Finset Part).biUnion (fun p => (rowSet (partLo c p) (partLen p) : Finset (⟨2, ![4096, s1]⟩ : Shape).Idx)) = Finset.univ :=
  Finset.ext fun i => by
    refine ⟨fun _ => Finset.mem_univ _, fun _ => ?_⟩
    have hi : (i 0).val < 4096 := idx2_lt0 i
    obtain ⟨p, h1, h2⟩ := part_cover c ⟨(i 0).val / 128, by omega⟩
    rw [Finset.mem_biUnion]
    refine ⟨p, Finset.mem_univ _, (mem_rowSet i).mpr ?_⟩
    dsimp only at h1 h2
    omega

/-- A rectangle of whole rows takes these elements. -/
theorem set_unit_rows {s0 s1 n lo : ℕ} {off : Fin 2 → ℕ} (ho : off = ![lo, 0])
    (h : ∀ a, off a + (⟨2, ![n, s1]⟩ : Shape).size a ≤ (⟨2, ![s0, s1]⟩ : Shape).size a) :
    (Rect.unit (s := ⟨2, ![s0, s1]⟩) off (⟨2, ![n, s1]⟩ : Shape).size h).set = rowSet lo n := by
  subst ho
  refine Finset.ext fun i => ?_
  rw [Rect.mem_set_unit, mem_rowSet]
  refine ⟨fun H => H 0, fun H a => ?_⟩
  match a with
  | ⟨0, _⟩ => exact H
  | ⟨1, _⟩ => exact ⟨Nat.zero_le _, by show (i 1).val < 0 + s1; have := idx2_lt1 i; omega⟩

theorem emb_unit_row {s0 s1 n lo : ℕ} {off : Fin 2 → ℕ} (ho : off = ![lo, 0])
    (h : ∀ a, off a + (⟨2, ![n, s1]⟩ : Shape).size a ≤ (⟨2, ![s0, s1]⟩ : Shape).size a) (x : (⟨2, ![n, s1]⟩ : Shape).Idx) :
    (((Rect.unit (s := ⟨2, ![s0, s1]⟩) off (⟨2, ![n, s1]⟩ : Shape).size h).emb x) 0).val = lo + (x 0).val := by
  subst ho
  show lo + 1 * (x 0).val = lo + (x 0).val
  omega
theorem emb_unit_col {s0 s1 n lo : ℕ} {off : Fin 2 → ℕ} (ho : off = ![lo, 0])
    (h : ∀ a, off a + (⟨2, ![n, s1]⟩ : Shape).size a ≤ (⟨2, ![s0, s1]⟩ : Shape).size a) (x : (⟨2, ![n, s1]⟩ : Shape).Idx) :
    (((Rect.unit (s := ⟨2, ![s0, s1]⟩) off (⟨2, ![n, s1]⟩ : Shape).size h).emb x) 1).val = (x 1).val := by
  subst ho
  show 0 + 1 * (x 1).val = (x 1).val
  omega

theorem rows_set {lo : ℕ} {off : Fin 2 → ℕ} (ho : off = ![lo, 0]) (h) : (rows off h).view.set = rowSet lo 256 :=
  (View.set_slice_whole cc0_scratch0 _).trans (set_unit_rows ho h)
theorem half_set {lo : ℕ} {off : Fin 2 → ℕ} (ho : off = ![lo, 0]) (h) : (half off h).view.set = rowSet lo 128 :=
  (View.set_slice_whole cc0_scratch0 _).trans (set_unit_rows ho h)

/-! ## Contents -/

-- `X`, `W`: the blocks of `x` and the columns of `w`, device by device.
variable (X : Dev nD → Vec F S256x4096 .bf16) (W : Dev nD → Vec F S4096x512 .bf16)

/-- The gathering buffer with every block in its place. -/
def gath : Vec F S4096x4096 .bf16 := fun i =>
  X (Fin.ofNat 16 ((i 0).val / 256)) (ix2 (Fin.ofNat 256 ((i 0).val % 256)) (i 1))

/-- `n` rows of it from row `lo`. -/
def gathRows (lo n : ℕ) : (⟨2, ![n, 4096]⟩ : Shape).Idx → Elt F .bf16 := fun y => gath X (ix2 (Fin.ofNat 4096 (lo + (y 0).val)) (y 1))

/-- The result: 256 rows at a time, and in halves in the block of the opposite device. -/
def out (c : Dev nD) : Vec F S4096x512 .f32 := fun i =>
  if (i 0).val / 256 = (c.val + 8) % 16 then
    k0_pay30 (gathRows X (128 * ((i 0).val / 128)) 128) (W c) (ix2 (Fin.ofNat 128 ((i 0).val % 128)) (i 1))
  else
    k0_pay3 (gathRows X (256 * ((i 0).val / 256)) 256) (W c) (ix2 (Fin.ofNat 256 ((i 0).val % 256)) (i 1))

/-- Reading rows of the gathered buffer. -/
theorem read_gath {n lo : ℕ} {off : Fin 2 → ℕ} (ho : off = ![lo, 0]) (hn : lo + n ≤ 4096)
    (h : ∀ a, off a + (⟨2, ![n, 4096]⟩ : Shape).size a ≤ S4096x4096.size a) :
    (fun x => gath X ((Rect.unit (s := S4096x4096) off (⟨2, ![n, 4096]⟩ : Shape).size h).emb x)) = gathRows X lo n := by
  funext x
  unfold gathRows
  refine congrArg (gath X) (funext fun a => Fin.ext ?_)
  have hx := idx2_lt0 x
  match a with
  | ⟨0, _⟩ =>
    refine (emb_unit_row ho h x).trans ?_
    show lo + (x 0).val = (lo + (x 0).val) % 4096
    rw [Nat.mod_eq_of_lt (by omega)]
  | ⟨1, _⟩ => exact emb_unit_col ho h x

/-- The rows of device `o` hold its block. -/
theorem gathRows_block (o : Dev nD) : gathRows X (256 * o.val) 256 = X o := by
  funext y
  have ho := o.isLt
  change o.val < 16 at ho
  have hy : (y 0).val < 256 := idx2_lt0 y
  have h1 : (256 * o.val + (y 0).val) % 4096 = 256 * o.val + (y 0).val := Nat.mod_eq_of_lt (by omega)
  unfold gathRows gath
  show X (Fin.ofNat 16 ((256 * o.val + (y 0).val) % 4096 / 256)) (ix2 (Fin.ofNat 256 ((256 * o.val + (y 0).val) % 4096 % 256)) (y 1)) = X o y
  rw [h1, show (256 * o.val + (y 0).val) / 256 = o.val by omega, show (256 * o.val + (y 0).val) % 256 = (y 0).val by omega]
  have e1 : (Fin.ofNat 16 o.val : Dev nD) = o := Fin.ext (Nat.mod_eq_of_lt ho)
  have e2 : (ix2 (Fin.ofNat 256 (y 0).val) (y 1) : S256x4096.Idx) = y := by
    rw [eq_ix2 y]
    exact congrArg (fun a => ix2 a (y 1)) (Fin.ext (Nat.mod_eq_of_lt hy))
  rw [e1]; exact congrArg (X o) e2

/-- The result on a block other than the opposite device's, and on a half of that one. -/
theorem out_block (c : Dev nD) {o : ℕ} (ho : o ≠ (c.val + 8) % 16) (i : S4096x512.Idx) (x : S256x512.Idx)
    (h0 : (i 0).val = 256 * o + (x 0).val) (h1 : (i 1).val = (x 1).val) :
    out X W c i = k0_pay3 (gathRows X (256 * o) 256) (W c) x := by
  have hx : (x 0).val < 256 := idx2_lt0 x
  unfold out
  rw [if_neg (by omega), show (i 0).val / 256 = o by omega, show (i 0).val % 256 = (x 0).val by omega]
  refine congrArg (k0_pay3 (gathRows X (256 * o) 256) (W c)) ?_
  rw [eq_ix2 x]
  exact congrArg₂ ix2 (Fin.ext (Nat.mod_eq_of_lt hx)) (Fin.ext h1)
theorem out_half (c : Dev nD) {k : ℕ} (hk : k / 2 = (c.val + 8) % 16) (i : S4096x512.Idx) (x : S128x512.Idx)
    (h0 : (i 0).val = 128 * k + (x 0).val) (h1 : (i 1).val = (x 1).val) :
    out X W c i = k0_pay30 (gathRows X (128 * k) 128) (W c) x := by
  have hx : (x 0).val < 128 := idx2_lt0 x
  unfold out
  rw [if_pos (by omega), show (i 0).val / 128 = k by omega, show (i 0).val % 128 = (x 0).val by omega]
  refine congrArg (k0_pay30 (gathRows X (128 * k) 128) (W c)) ?_
  rw [eq_ix2 x]
  exact congrArg₂ ix2 (Fin.ext (Nat.mod_eq_of_lt hx)) (Fin.ext h1)

/-- Which block, or which half of a block, a part is. -/
theorem lo_block : ∀ (c : Dev nD) (b : Bool) (h : Fin 7), lo c b h.castSucc = 256 * (org c b (h.val + 1)).val
    ∧ (org c b (h.val + 1)).val ≠ (c.val + 8) % 16 := by decide +kernel
theorem lo_half : ∀ (c : Dev nD) (b : Bool), lo c b 7 = 128 * (lo c b 7 / 128) ∧ lo c b 7 / 128 / 2 = (c.val + 8) % 16 := by decide +kernel
theorem own_ne : ∀ c : Dev nD, c.val ≠ (c.val + 8) % 16 := by decide +kernel

end Cert.KernelIdeal.Ring

end
-- ==== Proof.KernelIdeal.Sched.lean ====
/- The agreement between the devices: which semaphore counts what, what each copy and each signal hands over, and in which
   order the waits may be made. -/
module

public import proofs.«01_k».proof.Proof.KernelIdeal.Rows
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev ER : Emb UB (MT nD τ sig Unit (Elt F) ℕ UU ℕ) := embR

abbrev 𝒱₀ : Variants := Variants.none

/-! ## The semaphores of a device -/

/-- A device's semaphores in this agreement: the barrier's, the arrival semaphore nothing reaches, one per copy it makes,
    one per copy that reaches it. -/
inductive Cel where
  | bar
  | own
  | snd (b : Bool) (h : Fin 8)
  | rcv (b : Bool) (h : Fin 8)
  deriving DecidableEq

/-- All of them, in a row. -/
def celList : List Cel := .bar :: .own :: (List.finRange 8).flatMap fun h => [.snd false h, .snd true h, .rcv false h, .rcv true h]

theorem celList_nodup : celList.Nodup := by decide
theorem mem_celList (k : Cel) : k ∈ celList := by
  rcases k with _ | _ | ⟨b, h⟩ | ⟨b, h⟩
  · decide
  · decide
  · revert b h; decide
  · revert b h; decide
instance : Fintype Cel := ⟨⟨celList, celList_nodup⟩, mem_celList⟩

def sem (c : Dev nD) : Cel → SemLoc sig
  | .bar => .reg barS
  | .own => .dma (sO c)
  | .snd b h => .dma (sS b h)
  | .rcv b h => .dma (sV c b h)

abbrev cell (ck : Dev nD × Cel) : GSem nD τ sig := ((ck.1 : Thread nD τ), sem ck.1 ck.2)

/-- Which of a device's semaphores one is, if any. -/
def role (c : Dev nD) (sm : SemLoc sig) : Option Cel := celList.find? fun k => sem c k = sm

theorem role_sem : ∀ (c : Dev nD) (k : Cel), role c (sem c k) = some k := by decide +kernel

theorem sem_injective (c : Dev nD) : Function.Injective (sem c) := fun k k' h =>
  Option.some.inj ((role_sem c k).symm.trans ((congrArg (role c) h).trans (role_sem c k')))

theorem cell_injective : Function.Injective (cell : Dev nD × Cel → GSem nD τ sig) := by
  rintro ⟨c, k⟩ ⟨c', k'⟩ h
  have h1 : c = c' := congrArg (fun g : GSem nD τ sig => g.1.1) h
  subst h1
  exact congrArg (Prod.mk c) (sem_injective c (congrArg Prod.snd h))

/-! ## Amounts -/

/-- What a copy of hop `h` counts. -/
def amt (h : Fin 8) : ℕ :=
  if h = 7 then (half ![0, 0] (by decide)).view.dmaCredit else (rows ![0, 0] (by decide)).view.dmaCredit

theorem amt_pos (h : Fin 8) : 0 < amt h := by
  unfold amt; split <;> exact View.dmaCredit_pos _ (by decide)

theorem amt_rows {h : Fin 8} (hl : len h = 256) (off inb) : (rows off inb).view.dmaCredit = amt h := by
  unfold amt; rw [if_neg (fun e => by subst e; exact absurd hl (by decide))]
theorem amt_half (off inb) : (half off inb).view.dmaCredit = amt 7 := rfl
theorem amt_own : (xM.view.dmaCredit : ℕ) = amt 0 := by
  unfold amt; rw [if_neg (by decide)]

/-! ## What is handed over -/

variable (X : Dev nD → Vec F S256x4096 .bf16) (W : Dev nD → Vec F S4096x512 .bf16)

abbrev gL (c : Dev nD) : Loc nD τ sig := (c : Thread nD τ).loc cc0_scratch0
abbrev xL (c : Dev nD) : Loc nD τ sig := (c : Thread nD τ).loc cc0_stg0_0
abbrev wL (c : Dev nD) : Loc nD τ sig := (c : Thread nD τ).loc cc0_stg1_0
abbrev oL (c : Dev nD) : Loc nD τ sig := (c : Thread nD τ).loc cc0_stg2_0

/-- `n` rows of device `c`'s gathering buffer from row `a`, holding `f`. -/
def gP (c : Dev nD) (a n : ℕ) (q : PosShare TreeShare) (f : Vec F S4096x4096 .bf16) : sProp 𝕄 :=
  gL c ↦[(rowSet a n : Finset S4096x4096.Idx)]{q} f
/-- `n` rows of its result. -/
def oP (c : Dev nD) (a n : ℕ) (f : Vec F S4096x512 .f32) : sProp 𝕄 :=
  oL c ↦[(rowSet a n : Finset S4096x512.Idx)]{fullShare} f
/-- A share of its block of `x`. -/
def xP (c : Dev nD) (q : PosShare TreeShare) : sProp 𝕄 := xL c ↦{q} X c

instance gP_storable (c : Dev nD) (a n q) (f : Vec F S4096x4096 .bf16) : BI.Storable (upEmb : UEmb _ 𝕄) (gP c a n q f) := by unfold gP; infer_instance
instance xP_storable (c : Dev nD) (q) : BI.Storable (upEmb : UEmb _ 𝕄) (xP X c q) := by unfold xP; infer_instance

/-- The share of the block of `x` that travels along direction `b`, and the one kept. -/
def xShare (b : Bool) : PosShare TreeShare := if b then fullShare.right.left else fullShare.left
def xKept : PosShare TreeShare := fullShare.right.right

/-- Where the copy of hop `h` along `b` lands on device `c`. -/
def landing (c : Dev nD) (b : Bool) (h : Fin 8) : sProp 𝕄 := iprop(∃ f, gP c (lo c b h) (len h) fullShare f)

/-- A signal hands the device signalled the rows its copies along `b` land in. -/
def barPay (c : Dev nD) (b : Bool) : sProp 𝕄 := bigSep Finset.univ fun h : Fin 8 => landing (nx c b) b h
/-- A copy hands its destination the rows it has filled, and its source the share it has read. -/
def rcvPay (c : Dev nD) (b : Bool) (h : Fin 8) : sProp 𝕄 := gP c (lo c b h) (len h) fullShare (gath X)
def sndPay (c : Dev nD) (b : Bool) (h : Fin 8) : sProp 𝕄 :=
  if h = 0 then xP X c (xShare b) else gP c (lo (nx c b) b h) (len h) fullShare.left (gath X)

def payOf (c : Dev nD) (d : Bool) : Option Cel → sProp 𝕄
  | some .bar => barPay c d
  | some (.snd b h) => sndPay X c b h
  | some (.rcv b h) => rcvPay X c b h
  | _ => iprop(emp)
def dutiesOf : Option Cel → Finset Bool
  | some .bar => Finset.univ
  | some (.snd _ _) => {false}
  | some (.rcv _ _) => {false}
  | _ => ∅
def amountOf : Option Cel → ℕ
  | some (.snd _ h) => amt h
  | some (.rcv _ h) => amt h
  | _ => 1

/-- One round: a barrier's semaphore has a unit from each neighbour, the semaphore of a copy that copy's amount. -/
def Rd : Rounds.Schedule (GSem nD τ sig) Bool 𝕄 where
  duties g r := if r = 0 ∧ g.1.2 = .tc then dutiesOf (role g.1.1 g.2) else ∅
  unitless _ := False
  amount g _ _ := amountOf (role g.1.1 g.2)
  payload g _ d := payOf X g.1.1 d (role g.1.1 g.2)
  amount_pos g _ _ _ := by
    cases role g.1.1 g.2 with
    | none => exact Nat.one_pos
    | some k => cases k <;> first | exact Nat.one_pos | exact amt_pos _

instance Rd_storable (g : GSem nD τ sig) (r : ℕ) (d : Bool) : BI.Storable (upEmb : UEmb _ 𝕄) ((Rd X).payload g r d) := by
  show BI.Storable upEmb (payOf X g.1.1 d (role g.1.1 g.2))
  cases role g.1.1 g.2 with
  | none => unfold payOf; infer_instance
  | some k =>
    cases k
    · unfold payOf barPay landing; infer_instance
    · unfold payOf; infer_instance
    · unfold payOf sndPay; dsimp only; split <;> infer_instance
    · unfold payOf rcvPay; infer_instance

section Facts
variable (c : Dev nD)

theorem duties_at (k : Cel) : (Rd X).duties (cell (c, k)) 0 = dutiesOf (some k) := by
  show (if 0 = 0 ∧ (Proc.tc : Proc τ) = .tc then dutiesOf (role c (sem c k)) else ∅) = _
  rw [if_pos ⟨rfl, rfl⟩, role_sem]
theorem duties_none (k : Cel) (hk : dutiesOf (some k) = ∅) (r : ℕ) : (Rd X).duties (cell (c, k)) r = ∅ := by
  show (if r = 0 ∧ (Proc.tc : Proc τ) = .tc then dutiesOf (role c (sem c k)) else ∅) = _
  rw [role_sem, hk]; split <;> rfl
theorem duties_later (g : GSem nD τ sig) : ∀ r, 1 ≤ r → (Rd X).duties g r = ∅ := fun r hr => if_neg fun h => by omega
theorem amount_at (k : Cel) (d : Bool) : (Rd X).amount (cell (c, k)) 0 d = amountOf (some k) := by
  show amountOf (role c (sem c k)) = _; rw [role_sem]
theorem payload_at (k : Cel) (d : Bool) : (Rd X).payload (cell (c, k)) 0 d = payOf X c d (some k) := by
  show payOf X c d (role c (sem c k)) = _; rw [role_sem]

theorem expect_bar : (Rd X).expect (cell (c, .bar)) 0 = 2 := by
  unfold Schedule.expect Schedule.amountOf
  rw [duties_at, Finset.sum_congr rfl fun d _ => amount_at X c .bar d]; rfl
theorem expect_snd (b h) : (Rd X).expect (cell (c, .snd b h)) 0 = amt h := by
  unfold Schedule.expect Schedule.amountOf
  rw [duties_at, Finset.sum_congr rfl fun d _ => amount_at X c (.snd b h) d]; exact Finset.sum_singleton _ _
theorem expect_rcv (b h) : (Rd X).expect (cell (c, .rcv b h)) 0 = amt h := by
  unfold Schedule.expect Schedule.amountOf
  rw [duties_at, Finset.sum_congr rfl fun d _ => amount_at X c (.rcv b h) d]; exact Finset.sum_singleton _ _

theorem rest_bar : bigSep ((Rd X).duties (cell (c, .bar)) 0 \ ∅) (fun d => (Rd X).payload (cell (c, .bar)) 0 d) = iprop(barPay c false ∗ barPay c true) := by
  rw [Finset.sdiff_empty, duties_at, bigSep_congr fun d _ => payload_at X c .bar d]
  exact bigSep_univ_eq_bigSepL [false, true] (by decide) (by decide) _
theorem rest_snd (b h) : bigSep ((Rd X).duties (cell (c, .snd b h)) 0 \ ∅) (fun d => (Rd X).payload (cell (c, .snd b h)) 0 d) = sndPay X c b h := by
  rw [Finset.sdiff_empty, duties_at, bigSep_congr fun d _ => payload_at X c (.snd b h) d]
  exact bigSep_singleton
theorem rest_rcv (b h) : bigSep ((Rd X).duties (cell (c, .rcv b h)) 0 \ ∅) (fun d => (Rd X).payload (cell (c, .rcv b h)) 0 d) = rcvPay X c b h := by
  rw [Finset.sdiff_empty, duties_at, bigSep_congr fun d _ => payload_at X c (.rcv b h) d]
  exact bigSep_singleton

end Facts

/-! ## What is owed, and the order of the waits -/

/-- The copies still to be made from hop `n` on. -/
def rest (n : ℕ) : List (Bool × Fin 8) := ((List.finRange 8).drop n).flatMap fun h => [(false, h), (true, h)]

theorem rest_cons : ∀ h : Fin 8, rest h.val = (false, h) :: (true, h) :: rest (h.val + 1) := by decide
theorem rest_le : ∀ n : Fin 9, ∀ t ∈ rest n.val, n.val ≤ t.2.val := by decide

/-- What device `c` owes for a list of copies: to each destination that copy's amount. -/
def owed (c : Dev nD) : List (Bool × Fin 8) → CellTallies nD τ sig Unit
  | [] => 0
  | t :: l => owed c l + tallyAt (cell (nx c t.1, .rcv t.1 t.2)) () (amt t.2)

/-- What it owes at launch: all its copies and a unit to each neighbour. -/
def O₁ (c : Dev nD) : CellTallies nD τ sig Unit := owed c (rest 0) + tallyAt (cell (pv c true, .bar)) () 1
def O₀ (c : Dev nD) : CellTallies nD τ sig Unit := O₁ c + tallyAt (cell (pv c false, .bar)) () 1

def L (g : GSem nD τ sig) : Finset Unit := if g.1.2 = .tc then {()} else ∅
/-- The barrier comes first, then what arrives, hop after hop. -/
def lvOf : Option Cel → ℕ
  | some .bar => 1
  | some (.rcv _ h) => 2 + h.val
  | _ => 0
def lv (g : GSem nD τ sig) (_ : Unit) : ℕ := lvOf (role g.1.1 g.2)

theorem lv_at (c : Dev nD) (k : Cel) (u : Unit) : lv (cell (c, k)) u = lvOf (some k) := by
  show lvOf (role c (sem c k)) = _; rw [role_sem]

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {l : List (Bool × Fin 8)} {g : GSem nD τ sig} {u : Unit} (h : 0 < owed c l g u) :
    ∃ t ∈ l, g = cell (nx c t.1, .rcv t.1 t.2) := by
  induction l with
  | nil => exact absurd h (Nat.lt_irrefl 0)
  | cons t l ih =>
    change 0 < (owed c l + tallyAt (cell (nx c t.1, .rcv t.1 t.2)) () (amt t.2)) g u at h
    rw [Pi.add_apply, Finsupp.add_apply, tallyAt_apply] at h
    by_cases hg : g = cell (nx c t.1, .rcv t.1 t.2)
    · exact ⟨t, List.mem_cons_self, hg⟩
    · rw [if_neg fun h' => hg h'.1, Nat.add_zero] at h
      obtain ⟨t', ht', e⟩ := ih h
      exact ⟨t', List.mem_cons_of_mem _ ht', e⟩

/-- A wait below everything owed may be made. -/
theorem mayWait_owed (c : Dev nD) (sm : SemLoc sig) (n : ℕ) (hn : lv ((c : Thread nD τ), sm) () ≤ n) (l : List (Bool × Fin 8))
    (hl : ∀ t ∈ l, n < 2 + t.2.val) : (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨t, _, rfl⟩ := owed_pos hg; exact Finset.mem_singleton_self _)
    (fun p hp => by rw [Finset.mem_singleton.mp hp]; exact hn)
    (fun g u hg => by
      obtain ⟨t, ht, rfl⟩ := owed_pos hg
      rw [lv_at]; exact hl t ht)

theorem mayWait_launch (c : Dev nD) (sm : SemLoc sig) (hn : lv ((c : Thread nD τ), sm) () = 0) :
    (levAts L lv : sProp 𝕄) ⊢ MayWait (c : Thread nD τ) sm () (O₀ c) := by
  have hpos : ∀ {g : GSem nD τ sig} {u : Unit}, 0 < O₀ c g u → ∃ d k, g = cell (d, k) ∧ 0 < lvOf (some k) := fun {g u} h => by
    unfold O₀ O₁ at h
    rw [Pi.add_apply, Finsupp.add_apply, Pi.add_apply, Finsupp.add_apply, tallyAt_apply, tallyAt_apply] at h
    by_cases h1 : g = cell (pv c true, .bar)
    · exact ⟨_, _, h1, Nat.one_pos⟩
    by_cases h2 : g = cell (pv c false, .bar)
    · exact ⟨_, _, h2, Nat.one_pos⟩
    rw [if_neg fun h' => h1 h'.1, if_neg fun h' => h2 h'.1, Nat.add_zero] at h
    obtain ⟨t, _, e⟩ := owed_pos h
    exact ⟨_, _, e, by show 0 < 2 + _; omega⟩
  exact MayOwe.of_cut (L := L) (lev := lv) 0 (fun p hp => by rw [Finset.mem_singleton.mp hp, L_tc]; exact Finset.mem_singleton_self _)
    (fun g u hg => by obtain ⟨d, k, rfl, _⟩ := hpos hg; exact Finset.mem_singleton_self _)
    (fun p hp => by rw [Finset.mem_singleton.mp hp]; exact hn.le)
    (fun g u hg => by obtain ⟨d, k, rfl, h⟩ := hpos hg; rw [lv_at]; exact h)

end Cert.KernelIdeal.Ring

end
-- ==== Proof.KernelIdeal.Steps.lean ====
/- What each step of the body does with the rows it holds: a wait brings a copy's rows, a copy takes rows away and leaves a
   promise, a block of the product fills rows of the result. -/
module

public import proofs.«01_k».proof.Proof.KernelIdeal.Sched

@[expose] public section

set_option maxRecDepth 8000

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .bf16) (W : Dev nD → Vec F S4096x512 .bf16)
variable (K : Dev nD × Cel → ℕ)

/-! ## Triples -/

/-- The weakest precondition of a step on device `c`. -/
abbrev run (c : Dev nD) (p : TProg F) (Q : PUnit → sProp 𝕄) : sProp 𝕄 :=
  wp frame (wpE (defs₀ (F := F)) 𝒱₀ (c : Thread nD τ) none) Set.univ p Q

/-- One step, then the rest. -/
theorem seq (c : Dev nD) {p : TProg F} {k : PUnit → TProg F} {P R : sProp 𝕄} {Q : PUnit → sProp 𝕄} (h : P ⊢ run c p fun _ => R) :
    P ⊢ iprop((R -∗ run c (k ⟨⟩) Q) -∗ run c (p >>= k) Q) := by
  unfold run at *
  rw [wp_bind]
  refine h.trans ((wp_wand _ _ _).trans (wand_mono_left ?_))
  iintro H %u HR
  iapply H; iexact HR
/-- The last step. -/
theorem last (c : Dev nD) {p : TProg F} {P R : sProp 𝕄} {Q : PUnit → sProp 𝕄} (h : P ⊢ run c p fun _ => R) :
    P ⊢ iprop((R -∗ Q ⟨⟩) -∗ run c p Q) := by
  unfold run at *
  refine h.trans ((wp_wand _ _ _).trans (wand_mono_left ?_))
  iintro H %u HR
  iapply H; iexact HR

/-! ## What a device holds -/

/-- The order of the waits. -/
def levs : sProp 𝕄 := levAts L lv
instance levs_persistent : BI.Persistent (levs (F := F)) := by unfold levs; infer_instance

/-- The agreement in force, and the order of the waits. -/
def ctx : sProp 𝕄 :=
  iprop(((bigSep Finset.univ fun ck : Dev nD × Cel => cellInv ER (Rd X) (K ck) (cell ck))
    ∗ bigSep Finset.univ fun ck : Dev nD × Cel => reached ER (cell ck) 0) ∗ (levs : sProp 𝕄))

instance ctx_persistent : BI.Persistent (ctx X K) := by unfold ctx; infer_instance

theorem ctx_inv (ck : Dev nD × Cel) : ctx X K ⊢ cellInv ER (Rd X) (K ck) (cell ck) := by
  unfold ctx
  iintro ⟨⟨H, -⟩, -⟩
  have h : (bigSep Finset.univ fun ck : Dev nD × Cel => (cellInv ER (Rd X) (K ck) (cell ck) : sProp 𝕄)) ⊢ cellInv ER (Rd X) (K ck) (cell ck) :=
    bigSep_elim (Finset.mem_univ ck)
  iapply h; iexact H
theorem ctx_reached (ck : Dev nD × Cel) : ctx X K ⊢ reached ER (cell ck) 0 := by
  unfold ctx
  iintro ⟨⟨-, H⟩, -⟩
  have h : (bigSep Finset.univ fun ck : Dev nD × Cel => (reached ER (cell ck) 0 : sProp 𝕄)) ⊢ reached ER (cell ck) 0 :=
    bigSep_elim (Finset.mem_univ ck)
  iapply h; iexact H
theorem ctx_order : ctx X K ⊢ (levs : sProp 𝕄) := by
  unfold ctx
  iintro ⟨-, H⟩
  iexact H

/-- What device `c` owes, whatever it has waited for. -/
def ow (c : Dev nD) (O : CellTallies nD τ sig Unit) : sProp 𝕄 := iprop(∃ Ws, owes (c : Thread nD τ) O Ws)

/-- A copy expected: the place in its semaphore's round and its credit. -/
def due (c : Dev nD) (k : Cel) (n : ℕ) : sProp 𝕄 := iprop(atPos ER (cell (c, k)) 0 ∅ 0 ∗ cred (tallyAt (cell (c, k)) () n))
/-- A copy to be made: the tokens of its two semaphores, where it lands, the place in its own semaphore's round. -/
def todo (c : Dev nD) (b : Bool) (h : Fin 8) : sProp 𝕄 :=
  iprop(dutyTok ER (cell (c, .snd b h)) 0 false ∗ dutyTok ER (cell (nx c b, .rcv b h)) 0 false ∗ landing (nx c b) b h
    ∗ atPos ER (cell (c, .snd b h)) 0 ∅ 0)
def wP (c : Dev nD) : sProp 𝕄 := wL c ↦{fullShare} W c

/-! ## Waits -/

/-- Waiting for the whole of one of the device's semaphores: what its round hands over, and the semaphore at zero. -/
theorem wait_all (c : Dev nD) (k : Cel) (n : ℕ) (hn : (Rd X).expect (cell (c, k)) 0 = n)
    (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (sem c k) n Q)
    (O : CellTallies nD τ sig Unit) (hO : (levs : sProp 𝕄) ⊢ MayWait (c : Thread nD τ) (sem c k) () O) :
    iprop(ctx X K ∗ due c k n ∗ ow c O) ⊢ run c (Prog.lift w) fun _ =>
      iprop((bigSep ((Rd X).duties (cell (c, k)) 0 \ ∅) fun d => (Rd X).payload (cell (c, k)) 0 d) ∗ semVal (cell (c, k)) 0 ∗ ow c O) := by
  unfold due ow run
  show _ ⊢ wp frame (wpE (defs₀ (F := F)) 𝒱₀ (c : Thread nD τ) none) Set.univ (.op w .ret) _
  iintro ⟨#Hc, ⟨Hat, Hcr⟩, ⟨%Ws, Ho⟩⟩
  have hm := (ctx_order X K).trans hO
  ihave #HI := (ctx_inv X K (c, k)) $$ Hc
  iapply (Rounds.wp_wait_rest_token 𝒱₀ ER (Rd X) (c : Thread nD τ) none (κ := K (c, k)) (k := Prog.ret) hw (Set.mem_univ _) ()
    (O := O) (W := Ws) (R := 0) (m := 0) (T := ∅) (by rw [Nat.zero_add]; exact hn.symm)) $$ [Hat Hcr Ho]
  · isplitr; · iexact HI
    isplitl [Hcr]; · iexact Hcr
    isplitl [Ho]; · iexact Ho
    isplitr; · iapply hm; iexact Hc
    iexact Hat
  iintro ⟨Ho, Hat, -, Hpay⟩
  rw [wp_ret]
  imod (Rounds.cell_close ER (Rd X) (Set.mem_univ (K (c, k))) (fun h => h) (R := 0 + 1) (duties_later X (cell (c, k)))) $$ [Hat] with Hz
  · isplitr; · iexact HI
    iexact Hat
  imodintro
  isplitl [Hpay]; · iexact Hpay
  isplitl [Hz]; · iexact Hz
  iexists _; iexact Ho

/-- A copy's arrival. -/
theorem arrive (c : Dev nD) (b : Bool) (h : Fin 8) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (.dma (sV c b h)) (amt h) Q)
    (l : List (Bool × Fin 8)) (hl : ∀ t ∈ l, h.val < t.2.val) :
    iprop(ctx X K ∗ due c (.rcv b h) (amt h) ∗ ow c (owed c l)) ⊢ run c (Prog.lift w) fun _ =>
      iprop(rcvPay X c b h ∗ semVal (cell (c, .rcv b h)) 0 ∗ ow c (owed c l)) := by
  have H := wait_all X K c (.rcv b h) (amt h) (expect_rcv X c b h) w hw (owed c l)
    (mayWait_owed c _ (2 + h.val) (lv_at c (.rcv b h) ()).le l fun t ht => by have := hl t ht; omega)
  rw [rest_rcv] at H; exact H

theorem arriveRows (c : Dev nD) (b : Bool) (h : Fin 8) (hh : len h = 256) {s off hin hw} (hs : s = sV c b h)
    (l : List (Bool × Fin 8)) (hl : ∀ t ∈ l, h.val < t.2.val) :
    iprop(ctx X K ∗ due c (.rcv b h) (amt h) ∗ ow c (owed c l)) ⊢ run c (waitRows s off hin hw) fun _ =>
      iprop(rcvPay X c b h ∗ semVal (cell (c, .rcv b h)) 0 ∗ ow c (owed c l)) := by
  subst hs
  exact arrive X K c b h _ (fun Q => (wpE_waitDma2_eq 𝒱₀ (c : Thread nD τ) none Set.univ Q).trans (by rw [amt_rows hh])) l hl
theorem arriveHalf (c : Dev nD) (b : Bool) {s off hin hw} (hs : s = sV c b 7) (l : List (Bool × Fin 8)) (hl : ∀ t ∈ l, (7 : Fin 8).val < t.2.val) :
    iprop(ctx X K ∗ due c (.rcv b 7) (amt 7) ∗ ow c (owed c l)) ⊢ run c (waitHalf s off hin hw) fun _ =>
      iprop(rcvPay X c b 7 ∗ semVal (cell (c, .rcv b 7)) 0 ∗ ow c (owed c l)) := by
  subst hs
  exact arrive X K c b 7 _ (fun Q => (wpE_waitDma2_eq 𝒱₀ (c : Thread nD τ) none Set.univ Q).trans (by rw [amt_half])) l hl

/-- A copy's departure, once nothing more is owed. -/
theorem depart (c : Dev nD) (b : Bool) (h : Fin 8) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (.dma (sS b h)) (amt h) Q) :
    iprop(ctx X K ∗ due c (.snd b h) (amt h) ∗ ow c 0) ⊢ run c (Prog.lift w) fun _ =>
      iprop(sndPay X c b h ∗ semVal (cell (c, .snd b h)) 0 ∗ ow c 0) := by
  have H := wait_all X K c (.snd b h) (amt h) (expect_snd X c b h) w hw 0 (by rw [MayWait_zero]; iintro -; iempintro)
  rw [rest_snd] at H; exact H

theorem departRows (c : Dev nD) (b : Bool) (h : Fin 8) (hh : len h = 256) {s off hin hw} (hs : s = sS b h) :
    iprop(ctx X K ∗ due c (.snd b h) (amt h) ∗ ow c 0) ⊢ run c (waitRows s off hin hw) fun _ =>
      iprop(sndPay X c b h ∗ semVal (cell (c, .snd b h)) 0 ∗ ow c 0) := by
  subst hs
  exact depart X K c b h _ (fun Q => (wpE_waitDma2_eq 𝒱₀ (c : Thread nD τ) none Set.univ Q).trans (by rw [amt_rows hh]))
theorem departHalf (c : Dev nD) (b : Bool) {s off hin hw} (hs : s = sS b 7) :
    iprop(ctx X K ∗ due c (.snd b 7) (amt 7) ∗ ow c 0) ⊢ run c (waitHalf s off hin hw) fun _ =>
      iprop(sndPay X c b 7 ∗ semVal (cell (c, .snd b 7)) 0 ∗ ow c 0) := by
  subst hs
  exact depart X K c b 7 _ (fun Q => (wpE_waitDma2_eq 𝒱₀ (c : Thread nD τ) none Set.univ Q).trans (by rw [amt_half]))
theorem departOwn (c : Dev nD) (b : Bool) {s off hin hw} (hs : s = sS b 0) :
    iprop(ctx X K ∗ due c (.snd b 0) (amt 0) ∗ ow c 0) ⊢ run c (waitOwn s off hin hw) fun _ =>
      iprop(sndPay X c b 0 ∗ semVal (cell (c, .snd b 0)) 0 ∗ ow c 0) := by
  subst hs
  exact depart X K c b 0 _ (fun Q => (wpE_waitDma2_eq 𝒱₀ (c : Thread nD τ) none Set.univ Q).trans (by rw [amt_own]))

/-! ## The barrier -/

theorem pv_nx_neg : ∀ (c : Dev nD) (b : Bool), pv c b = nx c (!b) := by decide +kernel

/-- Each neighbour is handed the rows its copies land in, and hands over those the device's own copies land in. -/
theorem handshake_spec (c : Dev nD) {l r : Dev nD} (hl : l = nx c true) (hr : r = nx c false) :
    iprop(ctx X K ∗ due c .bar 2 ∗ dutyTok ER (cell (pv c false, .bar)) 0 false ∗ dutyTok ER (cell (pv c true, .bar)) 0 true
        ∗ (bigSep Finset.univ fun h => landing c false h) ∗ (bigSep Finset.univ fun h => landing c true h) ∗ ow c (O₀ c))
      ⊢ run c (handshake l r) fun _ =>
        iprop(barPay c false ∗ barPay c true ∗ semVal (cell (c, .bar)) 0 ∗ ow c (owed c (rest 0))) := by
  have h1 : l = pv c false := hl.trans (pv_nx_neg c false).symm
  have h2 : r = pv c true := hr.trans (pv_nx_neg c true).symm
  subst h1 h2
  have hpay : ∀ b : Bool, (bigSep Finset.univ fun h => landing c b h : sProp 𝕄) ⊢ (Rd X).payload ((pv c b : Thread nD τ), SemLoc.reg barS) 0 b :=
    fun b => (Entails.of_eq (by unfold payOf barPay; rw [nx_pv])).trans (Entails.of_eq (payload_at X (pv c b) .bar b).symm)
  have hw := wait_all X K c .bar 2 (expect_bar X c) (.semWait barS 2)
    (fun Q => wpE_semWait_eq 𝒱₀ (c : Thread nD τ) none Set.univ Q) (owed c (rest 0))
    (mayWait_owed c _ 1 (lv_at c .bar ()).le (rest 0) fun t _ => by omega)
  rw [rest_bar] at hw
  unfold ow handshake
  show _ ⊢ wp frame (wpE (defs₀ (F := F)) 𝒱₀ (c : Thread nD τ) none) Set.univ
    (.op (.semSignal (pv c false : Thread nD τ) barS (1 : ℕ)) fun _ => .op (.semSignal (pv c true : Thread nD τ) barS (1 : ℕ)) fun _ => Prog.lift (.semWait barS 2)) _
  iintro ⟨#Hc, Hd, Ht1, Ht2, Hl1, Hl2, ⟨%Ws, Ho⟩⟩
  iapply (Rounds.wp_signal 𝒱₀ ER (Rd X) (c : Thread nD τ) none (dst := (pv c false : Thread nD τ)) (κ := K (pv c false, .bar))
      (d := false) (by rw [show ((pv c false : Thread nD τ), SemLoc.reg barS) = cell (pv c false, .bar) from rfl, duties_at]; exact Finset.mem_univ _)
      (amount_at X (pv c false) .bar false) () (O₁ c) rfl) $$ [Ho Ht1 Hl1]
  · isplitr; · iapply (ctx_inv X K (pv c false, .bar)); iexact Hc
    isplitl [Ho]; · iexact Ho
    isplitl [Ht1]; · iexact Ht1
    isplitl [Hl1]; · iapply (hpay false); iexact Hl1
    iapply (ctx_reached X K (pv c false, .bar)); iexact Hc
  iintro Ho
  iapply (Rounds.wp_signal 𝒱₀ ER (Rd X) (c : Thread nD τ) none (dst := (pv c true : Thread nD τ)) (κ := K (pv c true, .bar))
      (d := true) (by rw [show ((pv c true : Thread nD τ), SemLoc.reg barS) = cell (pv c true, .bar) from rfl, duties_at]; exact Finset.mem_univ _)
      (amount_at X (pv c true) .bar true) () (owed c (rest 0)) rfl) $$ [Ho Ht2 Hl2]
  · isplitr; · iapply (ctx_inv X K (pv c true, .bar)); iexact Hc
    isplitl [Ho]; · iexact Ho
    isplitl [Ht2]; · iexact Ht2
    isplitl [Hl2]; · iapply (hpay true); iexact Hl2
    iapply (ctx_reached X K (pv c true, .bar)); iexact Hc
  iintro Ho
  iapply (last c hw) $$ [Hd Ho]
  · isplitr; · iexact Hc
    isplitl [Hd]; · iexact Hd
    unfold ow; iexists Ws; iexact Ho
  unfold ow
  iintro ⟨⟨H1, H2⟩, H3, H4⟩
  isplitl [H1]; · iexact H1
  isplitl [H2]; · iexact H2
  isplitl [H3] <;> iassumption

/-! ## Copies -/

/-- A copy of hop `h` along `b`: what it reads stays in flight, the rows it lands in are filled. -/
theorem send (c : Dev nD) (b : Bool) (h : Fin 8) {n : Dev nD} (hn : n = nx c b) {r : Rect S4096x4096} {hr1 : ∀ a, r.stride a = 1}
    {src : Memref sig .tc .vmem r.shape .bf16} {s s' : DmaSem sig} (hs : s = sS b h) (hs' : s' = sV (nx c b) b h)
    (hN : (gM.slice r hr1).view.dmaCredit = amt h) (hset : (gM.slice r hr1).view.set = (rowSet (lo (nx c b) b h) (len h) : Finset S4096x4096.Idx))
    {hsrc : src.view.WordExact} {hdst : (gM.slice r hr1).view.WordExact} {hsem}
    (q : PosShare TreeShare) (fs : Buf (Elt F) (src.view.loc (c : Thread nD τ)))
    (hpay : (src.view.loc (c : Thread nD τ) ↦[src.view.set]{q} fs : sProp 𝕄) ⊢ sndPay X c b h)
    (hland : ∀ (fd : Buf (Elt F) (gL (nx c b))), ∀ i ∈ (gM.slice r hr1).view.set,
      (gM.slice r hr1).view.write (Elt F) fd (src.view.read (Elt F) fs) Finset.univ i = gath X i) (l : List (Bool × Fin 8)) :
    iprop(ctx X K ∗ (src.view.loc (c : Thread nD τ) ↦[src.view.set]{q} fs) ∗ todo c b h ∗ ow c (owed c ((b, h) :: l)))
      ⊢ run c (Prog.lift (.enqueueDma src (.remote (Dev.tc n) (gM.slice r hr1) (.dma s)) (.dma s') hsrc hdst hsem)) fun _ =>
        iprop(due c (.snd b h) (amt h) ∗ ow c (owed c l)) := by
  subst hn hs hs'
  unfold todo landing ow run due
  show _ ⊢ wp frame (wpE (defs₀ (F := F)) 𝒱₀ (c : Thread nD τ) none) Set.univ
    (.op (.enqueueDma src (.remote (Dev.tc (nx c b)) (gM.slice r hr1) (.dma (sS b h))) (.dma (sV (nx c b) b h)) hsrc hdst hsem) .ret) _
  unfold gP
  rw [← hset]
  iintro ⟨#Hc, Hsrc, ⟨Ht1, Ht2, ⟨%fd, Hd⟩, Hat⟩, ⟨%Ws, Ho⟩⟩
  iapply (Rounds.wp_send_pointsTo 𝒱₀ ER (Rd X) (c : Thread nD τ) none (κ₁ := K (c, .snd b h)) (κ₂ := K (nx c b, .rcv b h))
    (c' := (nx c b : Thread nD τ)) (dst := gM.slice r hr1)
    (r₁ := 0) (r₂ := 0) (d₁ := false) (d₂ := false) (q := q) (fs := fs) (fd := fd) (k := Prog.ret)
    (show false ∈ (Rd X).duties (cell (c, .snd b h)) 0 by rw [duties_at]; exact Finset.mem_singleton_self _)
    (show false ∈ (Rd X).duties (cell (nx c b, .rcv b h)) 0 by rw [duties_at]; exact Finset.mem_singleton_self _)
    () () (amt h) hN (amount_at X c (.snd b h) false) (amount_at X (nx c b) (.rcv b h) false) (owed c l) rfl (W := Ws)
    (hpay.trans (Entails.of_eq (payload_at X c (.snd b h) false).symm))
    ((Entails.of_eq ((pointsTo_congr (hland fd)).trans (by rw [hset]; rfl))).trans
      (Entails.of_eq (payload_at X (nx c b) (.rcv b h) false).symm))) $$ [Hsrc Hd Ho Ht1 Ht2]
  · isplitr; · iapply (ctx_inv X K (c, .snd b h)); iexact Hc
    isplitr; · iapply (ctx_inv X K (nx c b, .rcv b h)); iexact Hc
    isplitl [Hsrc]; · iexact Hsrc
    isplitl [Hd]; · iexact Hd
    isplitl [Ho]; · iexact Ho
    isplitl [Ht1]; · iexact Ht1
    isplitr; · iapply (ctx_reached X K (c, .snd b h)); iexact Hc
    isplitl [Ht2]; · iexact Ht2
    iapply (ctx_reached X K (nx c b, .rcv b h)); iexact Hc
  iintro ⟨Hcr, Ho⟩
  rw [wp_ret]
  imodintro
  isplitl [Hat Hcr]
  · isplitl [Hat] <;> iassumption
  iexists _; iexact Ho

end Cert.KernelIdeal.Ring

end
-- ==== Proof.KernelIdeal.Compute.lean ====
/- The copies as printed, and the steps that compute: the device keeps its own block of `x`, and each block it holds is
   multiplied into the result. -/
module

public import Idealize.ShloMosaic.Lib.Pipeline.Value
public import proofs.«01_k».proof.Proof.KernelIdeal.Steps

@[expose] public section

set_option maxRecDepth 8000

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .bf16) (W : Dev nD → Vec F S4096x512 .bf16)
variable (K : Dev nD × Cel → ℕ)

/-! ## Copies -/

/-- Rows copied onto the same rows. -/
theorem same_rows {r : Rect S4096x4096} {hr1 : ∀ a, r.stride a = 1} (f fd : Vec F S4096x4096 .bf16) (i : S4096x4096.Idx)
    (hi : i ∈ (gM.slice r hr1).view.set) :
    (gM.slice r hr1).view.write (Elt F) fd ((gM.slice r hr1).view.read (Elt F) f) Finset.univ i = f i := by
  rw [View.write_read_eq_piecewise]
  exact Finset.piecewise_eq_of_mem _ _ _ hi

/-- A device's own block copied onto its rows. -/
theorem own_rows {o : Dev nD} {off : Fin 2 → ℕ} (ho : off = ![256 * o.val, 0]) (h) (fd : Vec F S4096x4096 .bf16) (i : S4096x4096.Idx)
    (hi : i ∈ (rows off h).view.set) :
    (rows off h).view.write (Elt F) fd (X o) Finset.univ i = gath X i := by
  obtain ⟨x, -, rfl⟩ := Finset.mem_map.mp hi
  rw [View.write_emb_of_mem _ _ (Finset.mem_univ x)]
  have hb : 256 * o.val + 256 ≤ 4096 := by have := o.isLt; change o.val < 16 at this; omega
  have e := congrFun ((read_gath (n := 256) X ho hb h).trans (gathRows_block X o)) x
  exact e.symm

theorem sendOwn_spec (c : Dev nD) (b : Bool) {n : Dev nD} {s s' : DmaSem sig} {off h hw} (hn : n = nx c b) (hs : s = sS b 0)
    (hs' : s' = sV (nx c b) b 0) (ho : off = ![lo (nx c b) b 0, 0]) (l : List (Bool × Fin 8)) :
    iprop(ctx X K ∗ xP X c (xShare b) ∗ todo c b 0 ∗ ow c (owed c ((b, 0) :: l)))
      ⊢ run c (sendOwn n s s' off h hw) fun _ => iprop(due c (.snd b 0) (amt 0) ∗ ow c (owed c l)) := by
  have ho' : off = ![256 * c.val, 0] := ho.trans (by rw [lo_nx_zero])
  have hx : xM.view.set = Finset.univ := View.set_whole cc0_stg0_0
  have H := send X K c b 0 hn hs hs' (r := Rect.unit (s := S4096x4096) off S256x4096.size h) (hr1 := fun _ => rfl) (src := xM)
    (amt_rows (h := 0) rfl off h) (rows_set ho h)
    (hsrc := (Memref.isWhole_whole cc0_stg0_0).wordExact) (hdst := (Memref.isWhole_whole cc0_scratch0).wordExact_slice rfl _ hw)
    (hsem := ⟨⟨rfl, Or.inl rfl⟩, trivial⟩)
    (xShare b) (X c) (by unfold sndPay xP; rw [if_pos rfl, hx])
    (fun fd i hi => by rw [View.read_whole]; exact own_rows X ho' h fd i hi) l
  rw [hx] at H
  exact H

theorem sendRows_spec (c : Dev nD) (b : Bool) (k : Fin 8) (hk : k ≠ 0) (hl : len k = 256) {n : Dev nD} {s s' : DmaSem sig} {off h hw}
    (hn : n = nx c b) (hs : s = sS b k) (hs' : s' = sV (nx c b) b k) (ho : off = ![lo (nx c b) b k, 0]) (l : List (Bool × Fin 8)) :
    iprop(ctx X K ∗ gP c (lo (nx c b) b k) (len k) fullShare.left (gath X) ∗ todo c b k ∗ ow c (owed c ((b, k) :: l)))
      ⊢ run c (sendRows n s s' off h hw) fun _ => iprop(due c (.snd b k) (amt k) ∗ ow c (owed c l)) := by
  have hset : (rows off h).view.set = rowSet (lo (nx c b) b k) (len k) := by rw [hl]; exact rows_set ho h
  have H := send X K c b k hn hs hs' (r := Rect.unit (s := S4096x4096) off S256x4096.size h) (hr1 := fun _ => rfl) (src := rows off h) (amt_rows hl off h) hset
    (hsrc := (Memref.isWhole_whole cc0_scratch0).wordExact_slice rfl _ hw) (hdst := (Memref.isWhole_whole cc0_scratch0).wordExact_slice rfl _ hw)
    (hsem := ⟨⟨rfl, Or.inl rfl⟩, trivial⟩)
    fullShare.left (gath X) (by unfold sndPay gP; rw [if_neg hk, hset]) (fun fd i hi => same_rows (gath X) fd i hi) l
  rw [hset] at H
  exact H

theorem sendHalf_spec (c : Dev nD) (b : Bool) {n : Dev nD} {s s' : DmaSem sig} {off h hw}
    (hn : n = nx c b) (hs : s = sS b 7) (hs' : s' = sV (nx c b) b 7) (ho : off = ![lo (nx c b) b 7, 0]) (l : List (Bool × Fin 8)) :
    iprop(ctx X K ∗ gP c (lo (nx c b) b 7) (len 7) fullShare.left (gath X) ∗ todo c b 7 ∗ ow c (owed c ((b, 7) :: l)))
      ⊢ run c (sendHalf n s s' off h hw) fun _ => iprop(due c (.snd b 7) (amt 7) ∗ ow c (owed c l)) := by
  have hset : (half off h).view.set = rowSet (lo (nx c b) b 7) (len 7) := half_set ho h
  have H := send X K c b 7 hn hs hs' (r := Rect.unit (s := S4096x4096) off S128x4096.size h) (hr1 := fun _ => rfl) (src := half off h) (amt_half off h) hset
    (hsrc := (Memref.isWhole_whole cc0_scratch0).wordExact_slice rfl _ hw) (hdst := (Memref.isWhole_whole cc0_scratch0).wordExact_slice rfl _ hw)
    (hsem := ⟨⟨rfl, Or.inl rfl⟩, trivial⟩)
    fullShare.left (gath X) (by unfold sndPay gP; rw [if_neg (by decide), hset]) (fun fd i hi => same_rows (gath X) fd i hi) l
  rw [hset] at H
  exact H

/-! ## Computation -/

theorem pay_id (a : Vec F S256x4096 .bf16) : k0_pay2 (k0_pay1 a) = a := by
  unfold k0_pay1 k0_pay2
  simp only [shapeCast_self]

/-- Whole buffers loaded. -/
theorem read_x (f : Vec F S256x4096 .bf16) :
    xM.view.readAt (Elt F) (Rect.unit (s := S256x4096) ![0, 0] S256x4096.size inb_S256x4096_S256x4096_0_0).toLoadRect f = f :=
  Memref.readAt_unit_zero (Elt F) cc0_stg0_0 (by funext a; fin_cases a <;> rfl) _ f
theorem read_w (f : Vec F S4096x512 .bf16) :
    wM.view.readAt (Elt F) (Rect.unit (s := S4096x512) ![0, 0] S4096x512.size inb_S4096x512_S4096x512_0_0).toLoadRect f = f :=
  Memref.readAt_unit_zero (Elt F) cc0_stg1_0 (by funext a; fin_cases a <;> rfl) _ f

/-- What the stores leave. -/
theorem stored_own {o : Dev nD} {off : Fin 2 → ℕ} (ho : off = ![256 * o.val, 0]) (h) (fd : Vec F S4096x4096 .bf16) (i : S4096x4096.Idx)
    (hi : i ∈ (rows off h).view.set) :
    (rows off h).view.write (Elt F) fd (k0_pay2 (k0_pay1 (xM.view.readAt (Elt F)
      (Rect.unit (s := S256x4096) ![0, 0] S256x4096.size inb_S256x4096_S256x4096_0_0).toLoadRect (X o)))) Finset.univ i = gath X i := by
  rw [pay_id, read_x]; exact own_rows X ho h fd i hi
theorem stored_rows (c : Dev nD) (f : Vec F S4096x512 .f32) {a o : ℕ} {off : Fin 2 → ℕ} {h} {off' : Fin 2 → ℕ} {h'} (ho : off = ![a, 0]) (ho' : off' = ![a, 0])
    (ha : a = 256 * o) (hn : o ≠ (c.val + 8) % 16) (i : S4096x512.Idx) (hi : i ∈ (oM.access (Rect.unit (s := S4096x512) off' S256x512.size h')).set) :
    (oM.access (Rect.unit (s := S4096x512) off' S256x512.size h')).write (Elt F) f
      (k0_pay3 ((gM.access (Rect.unit (s := S4096x4096) off S256x4096.size h)).read (Elt F) (gath X))
        (wM.view.readAt (Elt F) (Rect.unit (s := S4096x512) ![0, 0] S4096x512.size inb_S4096x512_S4096x512_0_0).toLoadRect (W c))) Finset.univ i = out X W c i := by
  have hb : a + 256 ≤ 4096 := by subst ho; exact h 0
  rw [read_w]
  obtain ⟨x, -, rfl⟩ := Finset.mem_map.mp hi
  rw [View.write_emb_of_mem _ _ (Finset.mem_univ x)]
  have e := out_block X W c hn ((oM.access (Rect.unit (s := S4096x512) off' S256x512.size h')).emb x) x
    ((emb_unit_row ho' h' x).trans (by rw [ha])) (emb_unit_col ho' h' x)
  rw [e, ← ha, ← read_gath X ho hb h]
  rfl
theorem stored_half (c : Dev nD) (f : Vec F S4096x512 .f32) {a k : ℕ} {off : Fin 2 → ℕ} {h} {off' : Fin 2 → ℕ} {h'} (ho : off = ![a, 0]) (ho' : off' = ![a, 0])
    (ha : a = 128 * k) (hk : k / 2 = (c.val + 8) % 16) (i : S4096x512.Idx) (hi : i ∈ (oM.access (Rect.unit (s := S4096x512) off' S128x512.size h')).set) :
    (oM.access (Rect.unit (s := S4096x512) off' S128x512.size h')).write (Elt F) f
      (k0_pay30 ((gM.access (Rect.unit (s := S4096x4096) off S128x4096.size h)).read (Elt F) (gath X))
        (wM.view.readAt (Elt F) (Rect.unit (s := S4096x512) ![0, 0] S4096x512.size inb_S4096x512_S4096x512_0_0).toLoadRect (W c))) Finset.univ i = out X W c i := by
  have hb : a + 128 ≤ 4096 := by subst ho; exact h 0
  rw [read_w]
  obtain ⟨x, -, rfl⟩ := Finset.mem_map.mp hi
  rw [View.write_emb_of_mem _ _ (Finset.mem_univ x)]
  have e := out_half X W c hk ((oM.access (Rect.unit (s := S4096x512) off' S128x512.size h')).emb x) x
    ((emb_unit_row ho' h' x).trans (by rw [ha])) (emb_unit_col ho' h' x)
  rw [e, ← ha, ← read_gath X ho hb h]
  rfl

theorem keepOwn_spec (c : Dev nD) (q : PosShare TreeShare) (f : Vec F S4096x4096 .bf16) {off h hp} (ho : off = ![256 * c.val, 0]) :
    iprop(xP X c q ∗ gP c (256 * c.val) 256 fullShare f)
      ⊢ run c (keepOwn (F := F) off h hp) fun _ => iprop(xP X c q ∗ gP c (256 * c.val) 256 fullShare (gath X)) := by
  have hset := rows_set ho h
  unfold xP gP run
  rw [← hset]
  show _ ⊢ wp frame (wpE (defs₀ (F := F)) 𝒱₀ (c : Thread nD τ) none) Set.univ
    (.op (.load xM (Rect.unit (s := S256x4096) ![0, 0] S256x4096.size inb_S256x4096_S256x4096_0_0).toLoadRect (View.loadsAt_vmem h_S256x4096)) fun a =>
     .op (.load gM (Rect.unit (s := S4096x4096) off S256x4096.size h).toLoadRect (View.loadsAt_vmem h_S256x4096)) fun _ =>
     .op (.store gM (Rect.unit (s := S4096x4096) off S256x4096.size h) (k0_pay2 (k0_pay1 a)) Finset.univ
    (View.stores_vmem h_S256x4096 ((Memref.isWhole_whole cc0_scratch0).storeExact_slice rfl _ hp) (fun _ => rfl)) (.inl rfl)) .ret) _
  iintro ⟨Hx, Hg⟩
  iapply (wp_load 𝒱₀ (c : Thread nD τ) none Set.univ (m := xM) (Finset.subset_univ _)) $$ Hx
  iintro Hx
  iapply (wp_load_rect 𝒱₀ (c : Thread nD τ) none Set.univ (m := gM) (r := Rect.unit (s := S4096x4096) off S256x4096.size h) (Finset.Subset.refl _)) $$ Hg
  iintro Hg
  iapply (wp_store 𝒱₀ (c : Thread nD τ) none Set.univ (m := gM) (r := Rect.unit (s := S4096x4096) off S256x4096.size h) (Mk := Finset.univ) (S := (gM.access (Rect.unit (s := S4096x4096) off S256x4096.size h)).set) (Finset.Subset.refl _)) $$ Hg
  iintro Hg
  rw [wp_ret]
  imodintro
  isplitl [Hx]; · iexact Hx
  iapply (Entails.of_eq (pointsTo_congr fun i hi => stored_own X ho h f i hi)); iexact Hg

theorem mulRows_spec (c : Dev nD) (q : PosShare TreeShare) (f : Vec F S4096x512 .f32) {a o : ℕ} {off h off' h'} (ho : off = ![a, 0]) (ho' : off' = ![a, 0])
    (ha : a = 256 * o) (hn : o ≠ (c.val + 8) % 16) :
    iprop(gP c a 256 q (gath X) ∗ wP W c ∗ oP c a 256 f)
      ⊢ run c (mulRows (F := F) off h off' h') fun _ => iprop(gP c a 256 q (gath X) ∗ wP W c ∗ oP c a 256 (out X W c)) := by
  have hset := rows_set ho h
  have hset' : (oM.access (Rect.unit (s := S4096x512) off' S256x512.size h')).set = rowSet a 256 :=
    (View.set_slice_whole cc0_stg2_0 _).trans (set_unit_rows ho' h')
  unfold oP gP wP run
  rw [← hset, ← hset']
  show _ ⊢ wp frame (wpE (defs₀ (F := F)) 𝒱₀ (c : Thread nD τ) none) Set.univ
    (.op (.load gM (Rect.unit (s := S4096x4096) off S256x4096.size h).toLoadRect (View.loadsAt_vmem h_S256x4096)) fun a =>
     .op (.load wM (Rect.unit (s := S4096x512) ![0, 0] S4096x512.size inb_S4096x512_S4096x512_0_0).toLoadRect (View.loadsAt_vmem h_S4096x512)) fun b =>
     .op (.load oM (Rect.unit (s := S4096x512) off' S256x512.size h').toLoadRect (View.loadsAt_vmem h_S256x512)) fun _ =>
     .op (.store oM (Rect.unit (s := S4096x512) off' S256x512.size h') (k0_pay3 a b) Finset.univ (View.stores_vmem_bits_univ h_S256x512 rfl) (.inl rfl)) .ret) _
  iintro ⟨Hg, Hw, Hf⟩
  iapply (wp_load_rect 𝒱₀ (c : Thread nD τ) none Set.univ (m := gM) (r := Rect.unit (s := S4096x4096) off S256x4096.size h) (Finset.Subset.refl _)) $$ Hg
  iintro Hg
  iapply (wp_load 𝒱₀ (c : Thread nD τ) none Set.univ (m := wM) (Finset.subset_univ _)) $$ Hw
  iintro Hw
  iapply (wp_load_rect 𝒱₀ (c : Thread nD τ) none Set.univ (m := oM) (r := Rect.unit (s := S4096x512) off' S256x512.size h') (Finset.Subset.refl _)) $$ Hf
  iintro Hf
  iapply (wp_store 𝒱₀ (c : Thread nD τ) none Set.univ (m := oM) (r := Rect.unit (s := S4096x512) off' S256x512.size h') (Mk := Finset.univ) (S := (oM.access (Rect.unit (s := S4096x512) off' S256x512.size h')).set) (Finset.Subset.refl _)) $$ Hf
  iintro Hf
  rw [wp_ret]
  imodintro
  isplitl [Hg]; · iexact Hg
  isplitl [Hw]; · iexact Hw
  iapply (Entails.of_eq (pointsTo_congr fun i hi => stored_rows X W c f ho ho' ha hn i hi)); iexact Hf

theorem mulHalf_spec (c : Dev nD) (q : PosShare TreeShare) (f : Vec F S4096x512 .f32) {a k : ℕ} {off h off' h'} (ho : off = ![a, 0]) (ho' : off' = ![a, 0])
    (ha : a = 128 * k) (hk : k / 2 = (c.val + 8) % 16) :
    iprop(gP c a 128 q (gath X) ∗ wP W c ∗ oP c a 128 f)
      ⊢ run c (mulHalf (F := F) off h off' h') fun _ => iprop(gP c a 128 q (gath X) ∗ wP W c ∗ oP c a 128 (out X W c)) := by
  have hset := half_set ho h
  have hset' : (oM.access (Rect.unit (s := S4096x512) off' S128x512.size h')).set = rowSet a 128 :=
    (View.set_slice_whole cc0_stg2_0 _).trans (set_unit_rows ho' h')
  unfold oP gP wP run
  rw [← hset, ← hset']
  show _ ⊢ wp frame (wpE (defs₀ (F := F)) 𝒱₀ (c : Thread nD τ) none) Set.univ
    (.op (.load gM (Rect.unit (s := S4096x4096) off S128x4096.size h).toLoadRect (View.loadsAt_vmem h_S128x4096)) fun a =>
     .op (.load wM (Rect.unit (s := S4096x512) ![0, 0] S4096x512.size inb_S4096x512_S4096x512_0_0).toLoadRect (View.loadsAt_vmem h_S4096x512)) fun b =>
     .op (.load oM (Rect.unit (s := S4096x512) off' S128x512.size h').toLoadRect (View.loadsAt_vmem h_S128x512)) fun _ =>
     .op (.store oM (Rect.unit (s := S4096x512) off' S128x512.size h') (k0_pay30 a b) Finset.univ (View.stores_vmem_bits_univ h_S128x512 rfl) (.inl rfl)) .ret) _
  iintro ⟨Hg, Hw, Hf⟩
  iapply (wp_load_rect 𝒱₀ (c : Thread nD τ) none Set.univ (m := gM) (r := Rect.unit (s := S4096x4096) off S128x4096.size h) (Finset.Subset.refl _)) $$ Hg
  iintro Hg
  iapply (wp_load 𝒱₀ (c : Thread nD τ) none Set.univ (m := wM) (Finset.subset_univ _)) $$ Hw
  iintro Hw
  iapply (wp_load_rect 𝒱₀ (c : Thread nD τ) none Set.univ (m := oM) (r := Rect.unit (s := S4096x512) off' S128x512.size h') (Finset.Subset.refl _)) $$ Hf
  iintro Hf
  iapply (wp_store 𝒱₀ (c : Thread nD τ) none Set.univ (m := oM) (r := Rect.unit (s := S4096x512) off' S128x512.size h') (Mk := Finset.univ) (S := (oM.access (Rect.unit (s := S4096x512) off' S128x512.size h')).set) (Finset.Subset.refl _)) $$ Hf
  iintro Hf
  rw [wp_ret]
  imodintro
  isplitl [Hg]; · iexact Hg
  isplitl [Hw]; · iexact Hw
  iapply (Entails.of_eq (pointsTo_congr fun i hi => stored_half X W c f ho ho' ha hk i hi)); iexact Hf

end Cert.KernelIdeal.Ring

end
-- ==== Proof.KernelIdeal.Hops.lean ====
/- The phases of the body: the barrier and the device's own block, a hop, the last two hops, the wait for what was sent. -/
module

public import proofs.«01_k».proof.Proof.KernelIdeal.Compute

@[expose] public section

set_option maxRecDepth 8000

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .bf16) (W : Dev nD → Vec F S4096x512 .bf16)
variable (K : Dev nD × Cel → ℕ)

/-! ## Resources by hop -/

/-- Rows of the result not yet filled, and filled. -/
def blank (c : Dev nD) (a n : ℕ) : sProp 𝕄 := iprop(∃ f, oP c a n f)
def done (c : Dev nD) (a n : ℕ) : sProp 𝕄 := oP c a n (out X W c)

/-- What a hop needs of direction `b`, and what it leaves. -/
def need (c : Dev nD) (b : Bool) (h : Fin 7) : sProp 𝕄 :=
  iprop(todo c b h.succ ∗ due c (.rcv b h.castSucc) (amt h.castSucc) ∗ blank c (lo c b h.castSucc) 256)
def left (c : Dev nD) (b : Bool) (h : Fin 7) : sProp 𝕄 :=
  iprop(due c (.snd b h.succ) (amt h.succ) ∗ semVal (cell (c, .rcv b h.castSucc)) 0
    ∗ gP c (lo c b h.castSucc) 256 fullShare.right (gath X) ∗ done X W c (lo c b h.castSucc) 256)

/-- A direction's half of the block that reaches the device at hop 6 goes on; this is the first row of the other half. -/
def rem (c : Dev nD) (b : Bool) : ℕ := lo c b 6 + if b then 0 else 128

/-! ## Splitting rows -/

theorem gP_halve (c : Dev nD) (a n : ℕ) (f : Vec F S4096x4096 .bf16) :
    gP c a n fullShare f ⊢ iprop(gP c a n fullShare.left f ∗ gP c a n fullShare.right f) := by
  unfold gP; exact (pointsTo_share (PosShare.mem_left_op_right fullShare)).1
theorem gP_whole (c : Dev nD) (a n : ℕ) (f : Vec F S4096x4096 .bf16) :
    iprop(gP c a n fullShare.left f ∗ gP c a n fullShare.right f) ⊢ gP c a n fullShare f := by
  unfold gP; exact (pointsTo_share (PosShare.mem_left_op_right fullShare)).2

theorem gP_cut (c : Dev nD) (a n n' : ℕ) (q : PosShare TreeShare) (f : Vec F S4096x4096 .bf16) :
    gP c a (n + n') q f = iprop(gP c a n q f ∗ gP c (a + n) n' q f) := by
  unfold gP
  rw [rowSet_append]
  have H : (gL c ↦[(rowSet a n ∪ rowSet (a + n) n' : Finset S4096x4096.Idx)]{q} f : sProp 𝕄)
      ⊣⊢ iprop((gL c ↦[(rowSet a n : Finset S4096x4096.Idx)]{q} f) ∗ gL c ↦[(rowSet (a + n) n' : Finset S4096x4096.Idx)]{q} f) :=
    pointsTo_union (rowSet_disjoint (Or.inl le_rfl))
  exact Entails.antisymm H.1 H.2

/-- The block of hop 6 as the half that goes on and the half that stays. -/
theorem gP_last (c : Dev nD) (b : Bool) (q : PosShare TreeShare) (f : Vec F S4096x4096 .bf16) :
    gP c (lo c b 6) 256 q f = iprop(gP c (lo (nx c b) b 7) 128 q f ∗ gP c (rem c b) 128 q f) := by
  have e := gP_cut c (lo c b 6) 128 128 q f
  rw [lo_nx_last]
  unfold rem
  cases b
  · exact e
  · exact e.trans (Entails.antisymm BI.sep_comm BI.sep_comm)

/-- What arrives at a hop: a share to send on, a share to compute with. -/
theorem rcv_halve (c : Dev nD) (b : Bool) (h : Fin 7) :
    rcvPay X c b h.castSucc ⊢ iprop(gP c (lo c b h.castSucc) 256 fullShare.left (gath X) ∗ gP c (lo c b h.castSucc) 256 fullShare.right (gath X)) := by
  unfold rcvPay; rw [len_castSucc]; exact gP_halve c _ _ _
theorem fwd (c : Dev nD) (b : Bool) (h : Fin 7) (h6 : h ≠ 6) (q : PosShare TreeShare) (f : Vec F S4096x4096 .bf16) :
    gP c (lo c b h.castSucc) 256 q f = gP c (lo (nx c b) b h.succ) (len h.succ) q f := by
  rw [lo_nx c b h h6, len_succ h h6]

theorem later : ∀ h : Fin 7, (∀ t ∈ (false, h.succ) :: (true, h.succ) :: rest (h.val + 2), h.castSucc.val < t.2.val)
    ∧ ∀ t ∈ (true, h.succ) :: rest (h.val + 2), h.castSucc.val < t.2.val := by decide

/-! ## The phases -/

/-- A hop. -/
theorem hop_spec (c : Dev nD) (h : Fin 7) (h6 : h ≠ 6) {r l : Dev nD} {k hk} (hr : r = nx c false) (hl : l = nx c true) (hkk : k = ![h.succ.val]) :
    iprop(ctx X K ∗ wP W c ∗ ow c (owed c (rest (h.val + 1))) ∗ need c false h ∗ need c true h)
      ⊢ run c (hopAt r l c h k hk) fun _ => iprop(wP W c ∗ ow c (owed c (rest (h.val + 2))) ∗ left X W c false h ∗ left X W c true h) := by
  subst hkk
  rw [show rest (h.val + 1) = (false, h.succ) :: (true, h.succ) :: rest (h.val + 2) from rest_cons h.succ]
  have hne : h.succ ≠ 0 := Fin.succ_ne_zero h
  have hlo : ∀ b, lo c b h.castSucc = lo (nx c b) b h.succ := fun b => (lo_nx c b h h6).symm
  have hb := fun b => lo_block c b h
  unfold need left done blank hopAt
  iintro ⟨#Hc, Hw, Ho, ⟨Ht1, Hd1, %f1, Hb1⟩, ⟨Ht2, Hd2, %f2, Hb2⟩⟩
  iapply (seq c (arriveRows X K c false h.castSucc (len_castSucc h) (semV_off5 c h) _ (later h).1)) $$ [Hd1 Ho]
  · isplitr; · iexact Hc
    isplitl [Hd1] <;> iassumption
  iintro ⟨Hg1, Hz1, Ho⟩
  ihave Hg1 := (rcv_halve X c false h) $$ Hg1
  icases Hg1 with ⟨Hs1, Hg1⟩
  iapply (seq c (sendRows_spec X K c false h.succ hne (len_succ h h6) hr (semR_eq h.succ hk)
    ((semV_off5 c h).trans (sV_nx c false h (fun _ => rfl)).symm) ((off6_eq c h).trans (by rw [hlo])) _)) $$ [Hs1 Ht1 Ho]
  · isplitr; · iexact Hc
    isplitl [Hs1]; · iapply (Entails.of_eq (fwd c false h h6 fullShare.left (gath X))); iexact Hs1
    isplitl [Ht1] <;> iassumption
  iintro ⟨He1, Ho⟩
  iapply (seq c (arriveRows X K c true h.castSucc (len_castSucc h) (semV_off7 c h) _ (later h).2)) $$ [Hd2 Ho]
  · isplitr; · iexact Hc
    isplitl [Hd2] <;> iassumption
  iintro ⟨Hg2, Hz2, Ho⟩
  ihave Hg2 := (rcv_halve X c true h) $$ Hg2
  icases Hg2 with ⟨Hs2, Hg2⟩
  iapply (seq c (sendRows_spec X K c true h.succ hne (len_succ h h6) hl (semL_eq h.succ hk)
    ((semV_off7 c h).trans (sV_nx c true h (fun e => absurd e h6)).symm) ((off8_eq c h).trans (by rw [hlo])) _)) $$ [Hs2 Ht2 Ho]
  · isplitr; · iexact Hc
    isplitl [Hs2]; · iapply (Entails.of_eq (fwd c true h h6 fullShare.left (gath X))); iexact Hs2
    isplitl [Ht2] <;> iassumption
  iintro ⟨He2, Ho⟩
  iapply (seq c (mulRows_spec X W c fullShare.right f1 (off9_eq c h) (off10_eq c h) (hb false).1 (hb false).2)) $$ [Hg1 Hw Hb1]
  · isplitl [Hg1]; · iexact Hg1
    isplitl [Hw] <;> iassumption
  iintro ⟨Hg1, Hw, Hb1⟩
  iapply (last c (mulRows_spec X W c fullShare.right f2 (off11_eq c h) (off12_eq c h) (hb true).1 (hb true).2)) $$ [Hg2 Hw Hb2]
  · isplitl [Hg2]; · iexact Hg2
    isplitl [Hw] <;> iassumption
  iintro ⟨Hg2, Hw, Hb2⟩
  isplitl [Hw]; · iexact Hw
  isplitl [Ho]; · iexact Ho
  isplitl [He1 Hz1 Hg1 Hb1]
  · isplitl [He1]; · iexact He1
    isplitl [Hz1]; · iexact Hz1
    isplitl [Hg1] <;> iassumption
  · isplitl [He2]; · iexact He2
    isplitl [Hz2]; · iexact Hz2
    isplitl [Hg2] <;> iassumption

/-- What the last forwarding hop leaves of direction `b`. -/
def leftLast (c : Dev nD) (b : Bool) : sProp 𝕄 :=
  iprop(left X W c b 6 ∗ gP c (rem c b) 128 fullShare.left (gath X))

/-- The hop that forwards half a block each way. -/
theorem hopLast_spec (c : Dev nD) {r l : Dev nD} (hr : r = nx c false) (hl : l = nx c true) :
    iprop(ctx X K ∗ wP W c ∗ ow c (owed c (rest 7)) ∗ need c false 6 ∗ need c true 6)
      ⊢ run c (hopLast r l c) fun _ => iprop(wP W c ∗ ow c (owed c (rest 8)) ∗ leftLast X W c false ∗ leftLast X W c true) := by
  rw [show rest 7 = (false, 7) :: (true, 7) :: rest 8 from rest_cons 7]
  have hb := fun b => lo_block c b 6
  have hcut : ∀ b, gP c (lo c b ((6 : Fin 7).castSucc)) 256 fullShare.left (gath X)
      ⊢ iprop(gP c (lo (nx c b) b 7) (len 7) fullShare.left (gath X) ∗ gP c (rem c b) 128 fullShare.left (gath X)) := fun b =>
    Entails.of_eq (gP_last c b fullShare.left (gath X))
  unfold leftLast need left done blank hopLast
  iintro ⟨#Hc, Hw, Ho, ⟨Ht1, Hd1, %f1, Hb1⟩, ⟨Ht2, Hd2, %f2, Hb2⟩⟩
  iapply (seq c (arriveRows X K c false (Fin.castSucc 6) (len_castSucc 6) (semV_off5 c 6) _ (later 6).1)) $$ [Hd1 Ho]
  · isplitr; · iexact Hc
    isplitl [Hd1]; · iexact Hd1
    iexact Ho
  iintro ⟨Hg1, Hz1, Ho⟩
  ihave Hg1 := (rcv_halve X c false 6) $$ Hg1
  icases Hg1 with ⟨Hs1, Hg1⟩
  ihave Hs1 := (hcut false) $$ Hs1
  icases Hs1 with ⟨Hs1, Hr1⟩
  iapply (seq c (sendHalf_spec X K c false hr (semR_eq 7 _)
    ((semV_off5 c 6).trans (sV_nx c false 6 (fun _ => rfl)).symm) (off13_send c) _)) $$ [Hs1 Ht1 Ho]
  · isplitr; · iexact Hc
    isplitl [Hs1]; · iexact Hs1
    isplitl [Ht1]; · iexact Ht1
    iexact Ho
  iintro ⟨He1, Ho⟩
  iapply (seq c (arriveRows X K c true (Fin.castSucc 6) (len_castSucc 6) (semV_off7 c 6) _ (later 6).2)) $$ [Hd2 Ho]
  · isplitr; · iexact Hc
    isplitl [Hd2]; · iexact Hd2
    iexact Ho
  iintro ⟨Hg2, Hz2, Ho⟩
  ihave Hg2 := (rcv_halve X c true 6) $$ Hg2
  icases Hg2 with ⟨Hs2, Hg2⟩
  ihave Hs2 := (hcut true) $$ Hs2
  icases Hs2 with ⟨Hs2, Hr2⟩
  iapply (seq c (sendHalf_spec X K c true hl (semL_eq 7 _) (semH_last (nx c true)) (off14_send c) _)) $$ [Hs2 Ht2 Ho]
  · isplitr; · iexact Hc
    isplitl [Hs2]; · iexact Hs2
    isplitl [Ht2]; · iexact Ht2
    iexact Ho
  iintro ⟨He2, Ho⟩
  iapply (seq c (mulRows_spec X W c fullShare.right f1 (off9_eq c 6) (off10_eq c 6) (hb false).1 (hb false).2)) $$ [Hg1 Hw Hb1]
  · isplitl [Hg1]; · iexact Hg1
    isplitl [Hw]; · iexact Hw
    iexact Hb1
  iintro ⟨Hg1, Hw, Hb1⟩
  iapply (last c (mulRows_spec X W c fullShare.right f2 (off11_eq c 6) (off12_eq c 6) (hb true).1 (hb true).2)) $$ [Hg2 Hw Hb2]
  · isplitl [Hg2]; · iexact Hg2
    isplitl [Hw]; · iexact Hw
    iexact Hb2
  iintro ⟨Hg2, Hw, Hb2⟩
  isplitl [Hw]; · iexact Hw
  isplitl [Ho]; · iexact Ho
  isplitl [He1 Hz1 Hg1 Hb1 Hr1]
  · isplitr [Hr1]
    · isplitl [He1]; · iexact He1
      isplitl [Hz1]; · iexact Hz1
      isplitl [Hg1] <;> iassumption
    iexact Hr1
  · isplitr [Hr2]
    · isplitl [He2]; · iexact He2
      isplitl [Hz2]; · iexact Hz2
      isplitl [Hg2] <;> iassumption
    iexact Hr2

/-- What the last hop needs of direction `b`, and what it leaves. -/
def needEnd (c : Dev nD) (b : Bool) : sProp 𝕄 := iprop(due c (.rcv b 7) (amt 7) ∗ blank c (lo c b 7) 128)
def leftEnd (c : Dev nD) (b : Bool) : sProp 𝕄 := iprop(rcvPay X c b 7 ∗ semVal (cell (c, .rcv b 7)) 0 ∗ done X W c (lo c b 7) 128)

theorem rcv_end (c : Dev nD) (b : Bool) : rcvPay X c b 7 = gP c (lo c b 7) 128 fullShare (gath X) := rfl

/-- The hop at which the opposite device's block arrives in halves. -/
theorem hopEnd_spec (c : Dev nD) :
    iprop(ctx X K ∗ wP W c ∗ ow c (owed c (rest 8)) ∗ needEnd c false ∗ needEnd c true)
      ⊢ run c (hopEnd c) fun _ => iprop(wP W c ∗ ow c (owed c (rest 8)) ∗ leftEnd X W c false ∗ leftEnd X W c true) := by
  have hr : ∀ t ∈ rest 8, (7 : Fin 8).val < t.2.val := by decide
  have hb := fun b => lo_half c b
  unfold needEnd leftEnd done blank hopEnd
  iintro ⟨#Hc, Hw, Ho, ⟨Hd1, %f1, Hb1⟩, ⟨Hd2, %f2, Hb2⟩⟩
  iapply (seq c (arriveHalf X K c false (semV_last c) _ hr)) $$ [Hd1 Ho]
  · isplitr; · iexact Hc
    isplitl [Hd1] <;> iassumption
  iintro ⟨Hg1, Hz1, Ho⟩
  ihave Hg1 := (Entails.of_eq (rcv_end X c false)) $$ Hg1
  iapply (seq c (mulHalf_spec X W c fullShare f1 (off15_first c) (off16_first c) (hb false).1 (hb false).2)) $$ [Hg1 Hw Hb1]
  · isplitl [Hg1]; · iexact Hg1
    isplitl [Hw] <;> iassumption
  iintro ⟨Hg1, Hw, Hb1⟩
  iapply (seq c (arriveHalf X K c true (semH_last c) _ hr)) $$ [Hd2 Ho]
  · isplitr; · iexact Hc
    isplitl [Hd2] <;> iassumption
  iintro ⟨Hg2, Hz2, Ho⟩
  ihave Hg2 := (Entails.of_eq (rcv_end X c true)) $$ Hg2
  iapply (last c (mulHalf_spec X W c fullShare f2 (off15_second c) (off16_second c) (hb true).1 (hb true).2)) $$ [Hg2 Hw Hb2]
  · isplitl [Hg2]; · iexact Hg2
    isplitl [Hw] <;> iassumption
  iintro ⟨Hg2, Hw, Hb2⟩
  isplitl [Hw]; · iexact Hw
  isplitl [Ho]; · iexact Ho
  isplitl [Hg1 Hz1 Hb1]
  · isplitl [Hg1]; · iapply (Entails.of_eq (rcv_end X c false).symm); iexact Hg1
    isplitl [Hz1] <;> iassumption
  · isplitl [Hg2]; · iapply (Entails.of_eq (rcv_end X c true).symm); iexact Hg2
    isplitl [Hz2] <;> iassumption

/-- What a hop has brought of direction `b`, once what it forwarded has left. -/
def got (c : Dev nD) (b : Bool) (h : Fin 7) : sProp 𝕄 :=
  iprop(rcvPay X c b h.castSucc ∗ done X W c (lo c b h.castSucc) (len h.castSucc)
    ∗ semVal (cell (c, .rcv b h.castSucc)) 0 ∗ semVal (cell (c, .snd b h.succ)) 0)

theorem rejoin (c : Dev nD) (b : Bool) (h : Fin 7) (h6 : h ≠ 6) :
    iprop(sndPay X c b h.succ ∗ gP c (lo c b h.castSucc) 256 fullShare.right (gath X)) ⊢ rcvPay X c b h.castSucc := by
  unfold sndPay rcvPay
  rw [if_neg (Fin.succ_ne_zero h), ← fwd c b h h6, len_castSucc]
  exact gP_whole c _ _ _
theorem rejoinLast (c : Dev nD) (b : Bool) :
    iprop(sndPay X c b 7 ∗ gP c (lo c b 6) 256 fullShare.right (gath X) ∗ gP c (rem c b) 128 fullShare.left (gath X)) ⊢ rcvPay X c b (Fin.castSucc 6) := by
  have e : sndPay X c b 7 = gP c (lo (nx c b) b 7) 128 fullShare.left (gath X) := by unfold sndPay; rw [if_neg (by decide)]; rfl
  have e' := gP_last c b fullShare.left (gath X)
  rw [e, show rcvPay X c b (Fin.castSucc 6) = gP c (lo c b 6) 256 fullShare (gath X) from rfl]
  iintro ⟨H1, H2, H3⟩
  iapply (gP_whole c (lo c b 6) 256 (gath X))
  isplitr [H2]
  · iapply (Entails.of_eq e'.symm)
    isplitl [H1] <;> iassumption
  · iexact H2

/-- Waiting until what was forwarded at one hop has left. -/
theorem drainAt_spec (c : Dev nD) (h : Fin 7) (h6 : h ≠ 6) {k hk} (hkk : k = ![h.succ.val]) :
    iprop(ctx X K ∗ ow c 0 ∗ left X W c false h ∗ left X W c true h)
      ⊢ run c (drainAt c h k hk) fun _ => iprop(ow c 0 ∗ got X W c false h ∗ got X W c true h) := by
  subst hkk
  have hd : ∀ b, (done X W c (lo c b h.castSucc) (len h.castSucc) : sProp 𝕄) = done X W c (lo c b h.castSucc) 256 := fun b => by rw [len_castSucc]
  unfold got left drainAt
  rw [hd, hd]
  iintro ⟨#Hc, Ho, ⟨H1, Hr1, Hg1, Hf1⟩, ⟨H2, Hr2, Hg2, Hf2⟩⟩
  iapply (seq c (departRows X K c false h.succ (len_succ h h6) (semR_eq h.succ hk))) $$ [H1 Ho]
  · isplitr; · iexact Hc
    isplitl [H1] <;> iassumption
  iintro ⟨H1, Hz1, Ho⟩
  iapply (last c (departRows X K c true h.succ (len_succ h h6) (semL_eq h.succ hk))) $$ [H2 Ho]
  · isplitr; · iexact Hc
    isplitl [H2] <;> iassumption
  iintro ⟨H2, Hz2, Ho⟩
  isplitl [Ho]; · iexact Ho
  isplitl [H1 Hz1 Hr1 Hg1 Hf1]
  · isplitl [H1 Hg1]
    · iapply (rejoin X c false h h6)
      isplitl [H1] <;> iassumption
    isplitl [Hf1]; · iexact Hf1
    isplitl [Hr1] <;> iassumption
  · isplitl [H2 Hg2]
    · iapply (rejoin X c true h h6)
      isplitl [H2] <;> iassumption
    isplitl [Hf2]; · iexact Hf2
    isplitl [Hr2] <;> iassumption

/-- The same for the half blocks. -/
theorem drainLast_spec (c : Dev nD) :
    iprop(ctx X K ∗ ow c 0 ∗ leftLast X W c false ∗ leftLast X W c true)
      ⊢ run c (drainLast c) fun _ => iprop(ow c 0 ∗ got X W c false 6 ∗ got X W c true 6) := by
  unfold leftLast got left drainLast
  iintro ⟨#Hc, Ho, ⟨⟨H1, Hr1, Hg1, Hf1⟩, Hk1⟩, ⟨⟨H2, Hr2, Hg2, Hf2⟩, Hk2⟩⟩
  iapply (seq c (departHalf X K c false (semR_eq 7 _))) $$ [H1 Ho]
  · isplitr; · iexact Hc
    isplitl [H1]; · iexact H1
    iexact Ho
  iintro ⟨H1, Hz1, Ho⟩
  iapply (last c (departHalf X K c true (semL_eq 7 _))) $$ [H2 Ho]
  · isplitr; · iexact Hc
    isplitl [H2]; · iexact H2
    iexact Ho
  iintro ⟨H2, Hz2, Ho⟩
  isplitl [Ho]; · iexact Ho
  isplitl [H1 Hz1 Hr1 Hg1 Hf1 Hk1]
  · isplitl [H1 Hg1 Hk1]
    · iapply (rejoinLast X c false)
      isplitl [H1]; · iexact H1
      isplitl [Hg1]; · iexact Hg1
      iexact Hk1
    isplitl [Hf1]; · iexact Hf1
    isplitl [Hr1]; · iexact Hr1
    iexact Hz1
  · isplitl [H2 Hg2 Hk2]
    · iapply (rejoinLast X c true)
      isplitl [H2]; · iexact H2
      isplitl [Hg2]; · iexact Hg2
      iexact Hk2
    isplitl [Hf2]; · iexact Hf2
    isplitl [Hr2]; · iexact Hr2
    iexact Hz2

/-- The first copies, the device's own block. -/
theorem opening_spec (c : Dev nD) (fg : Vec F S4096x4096 .bf16) (fo : Vec F S4096x512 .f32) :
    iprop(ctx X K ∗ ow c (owed c (rest 0)) ∗ todo c false 0 ∗ todo c true 0 ∗ xP X c (xShare false) ∗ xP X c (xShare true) ∗ xP X c xKept
        ∗ gP c (256 * c.val) 256 fullShare fg ∗ wP W c ∗ oP c (256 * c.val) 256 fo)
      ⊢ run c (opening c) fun _ => iprop(ow c (owed c (rest 1)) ∗ due c (.snd false 0) (amt 0) ∗ due c (.snd true 0) (amt 0) ∗ xP X c xKept
        ∗ gP c (256 * c.val) 256 fullShare (gath X) ∗ wP W c ∗ done X W c (256 * c.val) 256) := by
  rw [show rest 0 = (false, 0) :: (true, 0) :: rest 1 from rest_cons 0]
  unfold opening done
  iintro ⟨#Hc, Ho, Ht1, Ht2, Hx1, Hx2, Hx, Hg, Hw, Hf⟩
  iapply (seq c (sendOwn_spec X K c false (dev_right c).2.1 (semR_eq 0 _) (semV_off1 c false) (off2_eq c false) _)) $$ [Hx1 Ht1 Ho]
  · isplitr; · iexact Hc
    isplitl [Hx1]; · iexact Hx1
    isplitl [Ht1] <;> iassumption
  iintro ⟨He1, Ho⟩
  iapply (seq c (sendOwn_spec X K c true (dev_left c).2.1 (semL_eq 0 _) (semV_off1 c true) (off2_eq c true) _)) $$ [Hx2 Ht2 Ho]
  · isplitr; · iexact Hc
    isplitl [Hx2]; · iexact Hx2
    isplitl [Ht2] <;> iassumption
  iintro ⟨He2, Ho⟩
  iapply (seq c (keepOwn_spec X c xKept fg (off3_eq c))) $$ [Hx Hg]
  · isplitl [Hx] <;> iassumption
  iintro ⟨Hx, Hg⟩
  iapply (last c (mulRows_spec X W c fullShare fo (off3_eq c) (off4_eq c) rfl (own_ne c))) $$ [Hg Hw Hf]
  · isplitl [Hg]; · iexact Hg
    isplitl [Hw] <;> iassumption
  iintro ⟨Hg, Hw, Hf⟩
  isplitl [Ho]; · iexact Ho
  isplitl [He1]; · iexact He1
  isplitl [He2]; · iexact He2
  isplitl [Hx]; · iexact Hx
  isplitl [Hg]; · iexact Hg
  isplitl [Hw] <;> iassumption

end Cert.KernelIdeal.Ring

end
-- ==== Proof.KernelIdeal.Body.lean ====
/- The whole body on one device: from its buffers, its tokens and its credits to the gathered blocks, the result and every
   semaphore at zero. -/
module

public import proofs.«01_k».proof.Proof.KernelIdeal.Hops

@[expose] public section

set_option maxRecDepth 8000

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x4096 .bf16) (W : Dev nD → Vec F S4096x512 .bf16)
variable (K : Dev nD × Cel → ℕ)

/-! ## Products over hops, directions and parts -/

theorem sep_eight_first (Φ : Fin 8 → sProp 𝕄) : bigSep Finset.univ Φ = iprop(Φ 0 ∗ bigSep Finset.univ fun h : Fin 7 => Φ h.succ) := by
  rw [show (Finset.univ : Finset (Fin 8)) = insert 0 (Finset.univ.map (Fin.succEmb 7)) by decide, bigSep_insert (by decide), bigSep_map]
  rfl
theorem sep_eight_last (Φ : Fin 8 → sProp 𝕄) : bigSep Finset.univ Φ = iprop(Φ 7 ∗ bigSep Finset.univ fun h : Fin 7 => Φ h.castSucc) := by
  rw [show (Finset.univ : Finset (Fin 8)) = insert 7 (Finset.univ.map (Fin.castSuccEmb (n := 7))) by decide, bigSep_insert (by decide), bigSep_map]
  rfl
theorem sep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep_bool (Φ : Bool → sProp 𝕄) : bigSep Finset.univ Φ = iprop(Φ false ∗ Φ true) :=
  bigSep_univ_eq_bigSepL [false, true] (by decide) (by decide) Φ
theorem sep_part (Φ : Part → sProp 𝕄) : bigSep Finset.univ Φ
    = iprop(Φ none ∗ (bigSep Finset.univ fun h => Φ (some (false, h))) ∗ bigSep Finset.univ fun h => Φ (some (true, h))) := by
  rw [show (Finset.univ : Finset Part) = insert none (Finset.univ.map Function.Embedding.some) by decide, bigSep_insert (by decide), bigSep_map,
    bigSep_univ_prod, sep_bool]
  rfl

/-- A product of pairs is the pair of the products. -/
theorem sep_pairs {ι : Type} (s : Finset ι) (Φ Ψ : ι → sProp 𝕄) :
    (bigSep s fun i => iprop(Φ i ∗ Ψ i)) = iprop(bigSep s Φ ∗ bigSep s Ψ) := bigSep_sep s Φ Ψ

/-- A product follows from another factor by factor. -/
theorem sep_each {ι : Type} {s : Finset ι} {Φ Ψ : ι → sProp 𝕄} (h : ∀ i, Φ i ⊢ Ψ i) : bigSep s Φ ⊢ bigSep s Ψ :=
  bigSep_mono fun i _ => h i

/-! ## Buffers by parts -/

theorem g_parts (c : Dev nD) (f : Vec F S4096x4096 .bf16) :
    (gL c ↦{fullShare} f : sProp 𝕄) = bigSep Finset.univ fun p : Part => gP c (partLo c p) (partLen p) fullShare f := by
  unfold gP
  rw [← parts_cover (s1 := 4096) c]
  exact pointsTo_biUnion _ _ fun p _ p' _ hp => parts_disjoint c p p' hp
theorem o_parts (c : Dev nD) (f : Vec F S4096x512 .f32) :
    (oL c ↦{fullShare} f : sProp 𝕄) = bigSep Finset.univ fun p : Part => oP c (partLo c p) (partLen p) f := by
  unfold oP
  rw [← parts_cover (s1 := 512) c]
  exact pointsTo_biUnion _ _ fun p _ p' _ hp => parts_disjoint c p p' hp

theorem landing_of (c : Dev nD) (b : Bool) (h : Fin 8) (f : Vec F S4096x4096 .bf16) :
    gP c (lo c b h) (len h) fullShare f ⊢ (landing c b h : sProp 𝕄) := by
  unfold landing
  iintro H
  iexists f
  iexact H
theorem blank_of (c : Dev nD) (a n : ℕ) (f : Vec F S4096x512 .f32) : oP c a n f ⊢ (blank c a n : sProp 𝕄) := by
  unfold blank
  iintro H
  iexists f
  iexact H

theorem split_g (c : Dev nD) (f : Vec F S4096x4096 .bf16) : (gL c ↦{fullShare} f : sProp 𝕄)
    ⊢ iprop(gP c (256 * c.val) 256 fullShare f ∗ (bigSep Finset.univ fun h => landing c false h) ∗ bigSep Finset.univ fun h => landing c true h) := by
  have hl : ∀ b, (bigSep Finset.univ fun h => gP c (lo c b h) (len h) fullShare f : sProp 𝕄) ⊢ bigSep Finset.univ fun h => landing c b h := fun b =>
    bigSep_mono fun h _ => landing_of c b h f
  rw [g_parts, sep_part]
  exact BIClass.sep_mono (BIBase.Entails.refl) (BIClass.sep_mono (hl false) (hl true))
theorem join_g (c : Dev nD) :
    iprop(gP c (256 * c.val) 256 fullShare (gath X) ∗ (bigSep Finset.univ fun h => rcvPay X c false h) ∗ bigSep Finset.univ fun h => rcvPay X c true h)
      ⊢ (gL c ↦{fullShare} gath X : sProp 𝕄) := by
  rw [g_parts, sep_part]
  exact Entails.of_eq rfl
theorem split_o (c : Dev nD) (f : Vec F S4096x512 .f32) : (oL c ↦{fullShare} f : sProp 𝕄)
    ⊢ iprop(oP c (256 * c.val) 256 f ∗ (bigSep Finset.univ fun h => blank c (lo c false h) (len h)) ∗ bigSep Finset.univ fun h => blank c (lo c true h) (len h)) := by
  have hl : ∀ b, (bigSep Finset.univ fun h => oP c (lo c b h) (len h) f : sProp 𝕄) ⊢ bigSep Finset.univ fun h => blank c (lo c b h) (len h) := fun b =>
    bigSep_mono fun h _ => blank_of c _ _ f
  rw [o_parts, sep_part]
  exact BIClass.sep_mono (BIBase.Entails.refl) (BIClass.sep_mono (hl false) (hl true))
theorem join_o (c : Dev nD) :
    iprop(done X W c (256 * c.val) 256 ∗ (bigSep Finset.univ fun h => done X W c (lo c false h) (len h)) ∗ bigSep Finset.univ fun h => done X W c (lo c true h) (len h))
      ⊢ (oL c ↦{fullShare} out X W c : sProp 𝕄) := by
  rw [o_parts, sep_part]
  exact Entails.of_eq rfl

theorem split_x (c : Dev nD) : (xL c ↦{fullShare} X c : sProp 𝕄) ⊢ iprop(xP X c (xShare false) ∗ xP X c (xShare true) ∗ xP X c xKept) := by
  unfold xP xShare xKept
  iintro H
  ihave H := (pointsTo_share (PosShare.mem_left_op_right fullShare)).1 $$ H
  icases H with ⟨H1, H2⟩
  isplitl [H1]; · iexact H1
  iapply (pointsTo_share (PosShare.mem_left_op_right fullShare.right)).1; iexact H2
theorem join_x (c : Dev nD) : iprop(xP X c (xShare false) ∗ xP X c (xShare true) ∗ xP X c xKept) ⊢ (xL c ↦{fullShare} X c : sProp 𝕄) := by
  unfold xP xShare xKept
  iintro ⟨H1, H2⟩
  iapply (pointsTo_share (PosShare.mem_left_op_right fullShare)).2
  isplitl [H1]; · iexact H1
  iapply (pointsTo_share (PosShare.mem_left_op_right fullShare.right)).2; iexact H2

/-! ## What each hop needs and leaves -/

/-- The tokens of a copy to be made, and the place in the round of its semaphore. -/
def mine (c : Dev nD) (b : Bool) (h : Fin 8) : sProp 𝕄 :=
  iprop(dutyTok ER (cell (c, .snd b h)) 0 false ∗ dutyTok ER (cell (nx c b, .rcv b h)) 0 false ∗ atPos ER (cell (c, .snd b h)) 0 ∅ 0)

/-- Tokens, landing rows, credits and blank rows, by hop. -/
theorem needs (c : Dev nD) (b : Bool) :
    iprop((bigSep Finset.univ fun h => mine c b h) ∗ barPay c b ∗ (bigSep Finset.univ fun h => due c (.rcv b h) (amt h))
        ∗ bigSep Finset.univ fun h => blank c (lo c b h) (len h))
      ⊢ iprop(todo c b 0 ∗ (bigSep Finset.univ fun h : Fin 7 => need (F := F) c b h) ∗ needEnd c b) := by
  have ht : iprop((bigSep Finset.univ fun h => mine (F := F) c b h) ∗ barPay c b) ⊢ bigSep Finset.univ fun h => todo c b h := by
    unfold barPay
    rw [← sep_pairs]
    refine sep_each fun h => ?_
    unfold mine todo
    iintro ⟨⟨H1, H2, H3⟩, H4⟩
    isplitl [H1]; · iexact H1
    isplitl [H2]; · iexact H2
    isplitl [H4] <;> iassumption
  have hn : iprop((bigSep Finset.univ fun h : Fin 7 => todo (F := F) c b h.succ) ∗ (bigSep Finset.univ fun h : Fin 7 => due c (.rcv b h.castSucc) (amt h.castSucc))
      ∗ bigSep Finset.univ fun h : Fin 7 => blank c (lo c b h.castSucc) (len h.castSucc)) ⊢ bigSep Finset.univ fun h : Fin 7 => need c b h := by
    rw [← sep_pairs, ← sep_pairs]
    refine sep_each fun h => ?_
    unfold need
    rw [len_castSucc]
  have e1 := sep_eight_first fun h => todo (F := F) c b h
  have e2 := sep_eight_last fun h => due (F := F) c (.rcv b h) (amt h)
  have e3 := sep_eight_last fun h => blank (F := F) c (lo c b h) (len h)
  rw [e2, e3]
  unfold needEnd
  iintro ⟨Hm, Hb, ⟨Hd, Hds⟩, ⟨Hf, Hfs⟩⟩
  ihave Ht := ht $$ [Hm Hb]
  · isplitl [Hm] <;> iassumption
  ihave Ht := (Entails.of_eq e1) $$ Ht
  icases Ht with ⟨Ht, Hts⟩
  isplitl [Ht]; · iexact Ht
  isplitl [Hts Hds Hfs]
  · iapply hn
    isplitl [Hts]; · iexact Hts
    isplitl [Hds] <;> iassumption
  · isplitl [Hd]; · iexact Hd
    iexact Hf

/-- Rows gathered, rows of the result, semaphores at zero, over all hops. -/
theorem gots (c : Dev nD) (b : Bool) :
    iprop((bigSep Finset.univ fun h : Fin 7 => got X W c b h) ∗ leftEnd X W c b ∗ semVal (cell (c, .snd b 0)) 0)
      ⊢ iprop((bigSep Finset.univ fun h => rcvPay X c b h) ∗ (bigSep Finset.univ fun h => done X W c (lo c b h) (len h))
        ∗ (bigSep Finset.univ fun h => semVal (cell (c, .rcv b h)) 0) ∗ (bigSep Finset.univ fun h => semVal (cell (c, .snd b h)) 0)) := by
  have e1 := sep_eight_last fun h => rcvPay X c b h
  have e2 := sep_eight_last fun h => done X W c (lo c b h) (len h)
  have e3 := sep_eight_last fun h => (semVal (cell (c, .rcv b h)) 0 : sProp 𝕄)
  have e4 := sep_eight_first fun h => (semVal (cell (c, .snd b h)) 0 : sProp 𝕄)
  rw [e1, e2, e3, e4]
  unfold got leftEnd
  rw [sep_pairs, sep_pairs, sep_pairs]
  iintro ⟨⟨H1, H2, H3, H4⟩, ⟨E1, E3, E2⟩, E4⟩
  isplitl [H1 E1]
  · isplitl [E1] <;> iassumption
  isplitl [H2 E2]
  · isplitl [E2]; · iexact E2
    iexact H2
  isplitl [H3 E3]
  · isplitl [E3] <;> iassumption
  · isplitl [E4] <;> iassumption

/-! ## Forwarding and draining -/

theorem middle_spec (c : Dev nD) :
    iprop(ctx X K ∗ wP W c ∗ ow c (owed c (rest 1)) ∗ (bigSep Finset.univ fun h : Fin 7 => need c false h) ∗ (bigSep Finset.univ fun h : Fin 7 => need c true h))
      ⊢ run c (middle c) fun _ => iprop(wP W c ∗ ow c (owed c (rest 7)) ∗ need c false 6 ∗ need c true 6
        ∗ (left X W c false 0 ∗ left X W c false 1 ∗ left X W c false 2 ∗ left X W c false 3 ∗ left X W c false 4 ∗ left X W c false 5)
        ∗ (left X W c true 0 ∗ left X W c true 1 ∗ left X W c true 2 ∗ left X W c true 3 ∗ left X W c true 4 ∗ left X W c true 5)) := by
  obtain ⟨-, -, r0, r1, r2, r3, r4, r5, -⟩ := dev_right c
  obtain ⟨-, -, l0, l1, l2, l3, l4, l5, -⟩ := dev_left c
  rw [sep_seven, sep_seven]
  unfold middle
  iintro ⟨#Hc, Hw, Ho, ⟨A0, A1, A2, A3, A4, A5, A6⟩, ⟨B0, B1, B2, B3, B4, B5, B6⟩⟩
  iapply (seq c (hop_spec X W K c 0 (by decide) r0 l0 rfl)) $$ [Hw Ho A0 B0]
  · isplitr; · iexact Hc
    isplitl [Hw]; · iexact Hw
    isplitl [Ho]; · iexact Ho
    isplitl [A0] <;> iassumption
  iintro ⟨Hw, Ho, A0, B0⟩
  iapply (seq c (hop_spec X W K c 1 (by decide) r1 l1 rfl)) $$ [Hw Ho A1 B1]
  · isplitr; · iexact Hc
    isplitl [Hw]; · iexact Hw
    isplitl [Ho]; · iexact Ho
    isplitl [A1] <;> iassumption
  iintro ⟨Hw, Ho, A1, B1⟩
  iapply (seq c (hop_spec X W K c 2 (by decide) r2 l2 rfl)) $$ [Hw Ho A2 B2]
  · isplitr; · iexact Hc
    isplitl [Hw]; · iexact Hw
    isplitl [Ho]; · iexact Ho
    isplitl [A2] <;> iassumption
  iintro ⟨Hw, Ho, A2, B2⟩
  iapply (seq c (hop_spec X W K c 3 (by decide) r3 l3 rfl)) $$ [Hw Ho A3 B3]
  · isplitr; · iexact Hc
    isplitl [Hw]; · iexact Hw
    isplitl [Ho]; · iexact Ho
    isplitl [A3] <;> iassumption
  iintro ⟨Hw, Ho, A3, B3⟩
  iapply (seq c (hop_spec X W K c 4 (by decide) r4 l4 rfl)) $$ [Hw Ho A4 B4]
  · isplitr; · iexact Hc
    isplitl [Hw]; · iexact Hw
    isplitl [Ho]; · iexact Ho
    isplitl [A4] <;> iassumption
  iintro ⟨Hw, Ho, A4, B4⟩
  iapply (last c (hop_spec X W K c 5 (by decide) r5 l5 rfl)) $$ [Hw Ho A5 B5]
  · isplitr; · iexact Hc
    isplitl [Hw]; · iexact Hw
    isplitl [Ho]; · iexact Ho
    isplitl [A5] <;> iassumption
  iintro ⟨Hw, Ho, A5, B5⟩
  isplitl [Hw]; · iexact Hw
  isplitl [Ho]; · iexact Ho
  isplitl [A6]; · iexact A6
  isplitl [B6]; · iexact B6
  isplitl [A0 A1 A2 A3 A4 A5]
  · isplitl [A0]; · iexact A0
    isplitl [A1]; · iexact A1
    isplitl [A2]; · iexact A2
    isplitl [A3]; · iexact A3
    isplitl [A4] <;> iassumption
  · isplitl [B0]; · iexact B0
    isplitl [B1]; · iexact B1
    isplitl [B2]; · iexact B2
    isplitl [B3]; · iexact B3
    isplitl [B4] <;> iassumption

theorem back_spec (c : Dev nD) :
    iprop(ctx X K ∗ wP W c ∗ ow c (owed c (rest 7)) ∗ need c false 6 ∗ need c true 6 ∗ needEnd c false ∗ needEnd c true)
      ⊢ run c (back c) fun _ => iprop(wP W c ∗ ow c 0 ∗ leftLast X W c false ∗ leftLast X W c true ∗ leftEnd X W c false ∗ leftEnd X W c true) := by
  obtain ⟨-, -, -, -, -, -, -, -, r6⟩ := dev_right c
  obtain ⟨-, -, -, -, -, -, -, -, l6⟩ := dev_left c
  unfold back
  iintro ⟨#Hc, Hw, Ho, A, B, A', B'⟩
  iapply (seq c (hopLast_spec X W K c r6 l6)) $$ [Hw Ho A B]
  · isplitr; · iexact Hc
    isplitl [Hw]; · iexact Hw
    isplitl [Ho]; · iexact Ho
    isplitl [A] <;> iassumption
  iintro ⟨Hw, Ho, A, B⟩
  iapply (last c (hopEnd_spec X W K c)) $$ [Hw Ho A' B']
  · isplitr; · iexact Hc
    isplitl [Hw]; · iexact Hw
    isplitl [Ho]; · iexact Ho
    isplitl [A'] <;> iassumption
  iintro ⟨Hw, Ho, A', B'⟩
  isplitl [Hw]; · iexact Hw
  isplitl [Ho]; · iexact Ho
  isplitl [A]; · iexact A
  isplitl [B]; · iexact B
  isplitl [A'] <;> iassumption

theorem drain_spec (c : Dev nD) :
    iprop(ctx X K ∗ ow c 0 ∗ due c (.snd false 0) (amt 0) ∗ due c (.snd true 0) (amt 0)
        ∗ (left X W c false 0 ∗ left X W c false 1 ∗ left X W c false 2 ∗ left X W c false 3 ∗ left X W c false 4 ∗ left X W c false 5)
        ∗ (left X W c true 0 ∗ left X W c true 1 ∗ left X W c true 2 ∗ left X W c true 3 ∗ left X W c true 4 ∗ left X W c true 5)
        ∗ leftLast X W c false ∗ leftLast X W c true)
      ⊢ run c (drain c) fun _ => iprop(ow c 0 ∗ (sndPay X c false 0 ∗ semVal (cell (c, .snd false 0)) 0) ∗ (sndPay X c true 0 ∗ semVal (cell (c, .snd true 0)) 0)
        ∗ (bigSep Finset.univ fun h : Fin 7 => got X W c false h) ∗ (bigSep Finset.univ fun h : Fin 7 => got X W c true h)) := by
  rw [sep_seven, sep_seven]
  unfold drain
  iintro ⟨#Hc, Ho, H1, H2, ⟨A0, A1, A2, A3, A4, A5⟩, ⟨B0, B1, B2, B3, B4, B5⟩, A6, B6⟩
  iapply (seq c (departOwn X K c false (semR_eq 0 _))) $$ [H1 Ho]
  · isplitr; · iexact Hc
    isplitl [H1] <;> iassumption
  iintro ⟨H1, Z1, Ho⟩
  iapply (seq c (departOwn X K c true (semL_eq 0 _))) $$ [H2 Ho]
  · isplitr; · iexact Hc
    isplitl [H2] <;> iassumption
  iintro ⟨H2, Z2, Ho⟩
  iapply (seq c (drainAt_spec X W K c 0 (by decide) rfl)) $$ [Ho A0 B0]
  · isplitr; · iexact Hc
    isplitl [Ho]; · iexact Ho
    isplitl [A0] <;> iassumption
  iintro ⟨Ho, A0, B0⟩
  iapply (seq c (drainAt_spec X W K c 1 (by decide) rfl)) $$ [Ho A1 B1]
  · isplitr; · iexact Hc
    isplitl [Ho]; · iexact Ho
    isplitl [A1] <;> iassumption
  iintro ⟨Ho, A1, B1⟩
  iapply (seq c (drainAt_spec X W K c 2 (by decide) rfl)) $$ [Ho A2 B2]
  · isplitr; · iexact Hc
    isplitl [Ho]; · iexact Ho
    isplitl [A2] <;> iassumption
  iintro ⟨Ho, A2, B2⟩
  iapply (seq c (drainAt_spec X W K c 3 (by decide) rfl)) $$ [Ho A3 B3]
  · isplitr; · iexact Hc
    isplitl [Ho]; · iexact Ho
    isplitl [A3] <;> iassumption
  iintro ⟨Ho, A3, B3⟩
  iapply (seq c (drainAt_spec X W K c 4 (by decide) rfl)) $$ [Ho A4 B4]
  · isplitr; · iexact Hc
    isplitl [Ho]; · iexact Ho
    isplitl [A4] <;> iassumption
  iintro ⟨Ho, A4, B4⟩
  iapply (seq c (drainAt_spec X W K c 5 (by decide) rfl)) $$ [Ho A5 B5]
  · isplitr; · iexact Hc
    isplitl [Ho]; · iexact Ho
    isplitl [A5] <;> iassumption
  iintro ⟨Ho, A5, B5⟩
  iapply (last c (drainLast_spec X W K c)) $$ [Ho A6 B6]
  · isplitr; · iexact Hc
    isplitl [Ho]; · iexact Ho
    isplitl [A6] <;> iassumption
  iintro ⟨Ho, A6, B6⟩
  isplitl [Ho]; · iexact Ho
  isplitl [H1 Z1]
  · isplitl [H1] <;> iassumption
  isplitl [H2 Z2]
  · isplitl [H2] <;> iassumption
  isplitl [A0 A1 A2 A3 A4 A5 A6]
  · isplitl [A0]; · iexact A0
    isplitl [A1]; · iexact A1
    isplitl [A2]; · iexact A2
    isplitl [A3]; · iexact A3
    isplitl [A4]; · iexact A4
    isplitl [A5] <;> iassumption
  · isplitl [B0]; · iexact B0
    isplitl [B1]; · iexact B1
    isplitl [B2]; · iexact B2
    isplitl [B3]; · iexact B3
    isplitl [B4]; · iexact B4
    isplitl [B5] <;> iassumption

theorem snd_first (c : Dev nD) (b : Bool) : sndPay X c b 0 = xP X c (xShare b) := if_pos rfl

/-! ## The body -/

/-- The device's tokens, credits and places at the start of the body. -/
def tokens (c : Dev nD) : sProp 𝕄 :=
  iprop(due c .bar 2 ∗ atPos ER (cell (c, .own)) 0 ∅ 0
    ∗ dutyTok ER (cell (pv c false, .bar)) 0 false ∗ dutyTok ER (cell (pv c true, .bar)) 0 true
    ∗ (bigSep Finset.univ fun h => mine c false h) ∗ (bigSep Finset.univ fun h => mine c true h)
    ∗ (bigSep Finset.univ fun h => due c (.rcv false h) (amt h)) ∗ (bigSep Finset.univ fun h => due c (.rcv true h) (amt h)))
/-- Its semaphores at zero. -/
def zeros (c : Dev nD) : sProp 𝕄 :=
  iprop(semVal (cell (c, .bar)) 0 ∗ semVal (cell (c, .own)) 0
    ∗ (bigSep Finset.univ fun h => semVal (cell (c, .snd false h)) 0) ∗ (bigSep Finset.univ fun h => semVal (cell (c, .snd true h)) 0)
    ∗ (bigSep Finset.univ fun h => semVal (cell (c, .rcv false h)) 0) ∗ (bigSep Finset.univ fun h => semVal (cell (c, .rcv true h)) 0))

theorem close_own (c : Dev nD) :
    iprop(ctx X K ∗ atPos ER (cell (c, .own)) 0 ∅ 0) ⊢ iprop(|={Set.univ}=> semVal (cell (c, .own)) 0) := by
  refine BIBase.Entails.trans ?_ (Rounds.cell_close ER (Rd X) (Set.mem_univ (K (c, .own))) (fun h => h) (R := 0) (fun r _ => duties_none X c .own rfl r))
  iintro ⟨Hc, H⟩
  isplitl [Hc]
  · iapply (ctx_inv X K (c, .own)); iexact Hc
  · iexact H

theorem printed_spec (c : Dev nD) (fg : Vec F S4096x4096 .bf16) (fo : Vec F S4096x512 .f32) :
    iprop(ctx X K ∗ tokens c ∗ ow c (O₀ c) ∗ (xL c ↦{fullShare} X c) ∗ (wL c ↦{fullShare} W c) ∗ (gL c ↦{fullShare} fg) ∗ (oL c ↦{fullShare} fo))
      ⊢ run c (printed c) fun _ => iprop(ow c 0 ∗ (xL c ↦{fullShare} X c) ∗ (wL c ↦{fullShare} W c) ∗ (gL c ↦{fullShare} gath X)
        ∗ (oL c ↦{fullShare} out X W c) ∗ zeros c) := by
  have hw : (wL c ↦{fullShare} W c : sProp 𝕄) = wP W c := rfl
  rw [hw]
  show _ ⊢ run c (handshake _ _ >>= fun _ => opening c >>= fun _ => middle c >>= fun _ => back c >>= fun _ => drain c) _
  unfold tokens zeros
  iintro ⟨#Hc, ⟨Hd, Hown, T1, T2, M1, M2, D1, D2⟩, Ho, Hx, Hw, Hg, Hf⟩
  ihave Hg := (split_g c fg) $$ Hg
  icases Hg with ⟨Hg, L1, L2⟩
  ihave Hf := (split_o c fo) $$ Hf
  icases Hf with ⟨Hf, F1, F2⟩
  ihave Hx := (split_x X c) $$ Hx
  icases Hx with ⟨X1, X2, Hx⟩
  iapply (seq c (handshake_spec X K c (dev_left c).1 (dev_right c).1)) $$ [Hd T1 T2 L1 L2 Ho]
  · isplitr; · iexact Hc
    isplitl [Hd]; · iexact Hd
    isplitl [T1]; · iexact T1
    isplitl [T2]; · iexact T2
    isplitl [L1]; · iexact L1
    isplitl [L2] <;> iassumption
  iintro ⟨P1, P2, Zb, Ho⟩
  ihave N1 := (needs c false) $$ [M1 P1 D1 F1]
  · isplitl [M1]; · iexact M1
    isplitl [P1]; · iexact P1
    isplitl [D1] <;> iassumption
  icases N1 with ⟨S1, N1, E1⟩
  ihave N2 := (needs c true) $$ [M2 P2 D2 F2]
  · isplitl [M2]; · iexact M2
    isplitl [P2]; · iexact P2
    isplitl [D2] <;> iassumption
  icases N2 with ⟨S2, N2, E2⟩
  iapply (seq c (opening_spec X W K c fg fo)) $$ [Ho S1 S2 X1 X2 Hx Hg Hw Hf]
  · isplitr; · iexact Hc
    isplitl [Ho]; · iexact Ho
    isplitl [S1]; · iexact S1
    isplitl [S2]; · iexact S2
    isplitl [X1]; · iexact X1
    isplitl [X2]; · iexact X2
    isplitl [Hx]; · iexact Hx
    isplitl [Hg]; · iexact Hg
    isplitl [Hw] <;> iassumption
  iintro ⟨Ho, S1, S2, Hx, Hg, Hw, Hf⟩
  iapply (seq c (middle_spec X W K c)) $$ [Hw Ho N1 N2]
  · isplitr; · iexact Hc
    isplitl [Hw]; · iexact Hw
    isplitl [Ho]; · iexact Ho
    isplitl [N1] <;> iassumption
  iintro ⟨Hw, Ho, N1, N2, A, B⟩
  iapply (seq c (back_spec X W K c)) $$ [Hw Ho N1 N2 E1 E2]
  · isplitr; · iexact Hc
    isplitl [Hw]; · iexact Hw
    isplitl [Ho]; · iexact Ho
    isplitl [N1]; · iexact N1
    isplitl [N2]; · iexact N2
    isplitl [E1] <;> iassumption
  iintro ⟨Hw, Ho, A6, B6, E1, E2⟩
  imod (close_own X K c) $$ [Hown] with Zo
  · isplitr; · iexact Hc
    iexact Hown
  iapply (last c (drain_spec X W K c)) $$ [Ho S1 S2 A B A6 B6]
  · isplitr; · iexact Hc
    isplitl [Ho]; · iexact Ho
    isplitl [S1]; · iexact S1
    isplitl [S2]; · iexact S2
    isplitl [A]; · iexact A
    isplitl [B]; · iexact B
    isplitl [A6] <;> iassumption
  iintro ⟨Ho, ⟨X1, Z1⟩, ⟨X2, Z2⟩, A, B⟩
  ihave A := (gots X W c false) $$ [A E1 Z1]
  · isplitl [A]; · iexact A
    isplitl [E1] <;> iassumption
  icases A with ⟨G1, F1, R1, Q1⟩
  ihave B := (gots X W c true) $$ [B E2 Z2]
  · isplitl [B]; · iexact B
    isplitl [E2] <;> iassumption
  icases B with ⟨G2, F2, R2, Q2⟩
  isplitl [Ho]; · iexact Ho
  isplitl [X1 X2 Hx]
  · iapply (join_x X c)
    isplitl [X1]; · iapply (Entails.of_eq (snd_first X c false)); iexact X1
    isplitl [X2]; · iapply (Entails.of_eq (snd_first X c true)); iexact X2
    iexact Hx
  isplitl [Hw]; · iexact Hw
  isplitl [Hg G1 G2]
  · iapply (join_g X c)
    isplitl [Hg]; · iexact Hg
    isplitl [G1] <;> iassumption
  isplitl [Hf F1 F2]
  · iapply (join_o X W c)
    isplitl [Hf]; · iexact Hf
    isplitl [F1] <;> iassumption
  isplitl [Zb]; · iexact Zb
  isplitl [Zo]; · iexact Zo
  isplitl [Q1]; · iexact Q1
  isplitl [Q2]; · iexact Q2
  isplitl [R1] <;> iassumption

/-- The kernel's body. -/
theorem body_spec (c : Dev nD) (fg : Vec F S4096x4096 .bf16) (fo : Vec F S4096x512 .f32) :
    iprop(ctx X K ∗ tokens c ∗ ow c (O₀ c) ∗ (xL c ↦{fullShare} X c) ∗ (wL c ↦{fullShare} W c) ∗ (gL c ↦{fullShare} fg) ∗ (oL c ↦{fullShare} fo))
      ⊢ run c bodyCall fun _ => iprop(ow c 0 ∗ (xL c ↦{fullShare} X c) ∗ (wL c ↦{fullShare} W c) ∗ (gL c ↦{fullShare} gath X)
        ∗ (oL c ↦{fullShare} out X W c) ∗ zeros c) := by
  rw [body_eq]
  unfold run
  rw [wp_deviceId]
  exact printed_spec X W K c fg fo

end Cert.KernelIdeal.Ring

end
-- ==== Proof.KernelIdeal.Deal.lean ====
/- What the launch deals each device: its semaphores put under the agreement, the tokens handed round the ring, and the
   credits for what will reach it. -/
module

public import proofs.«01_k».proof.Proof.KernelIdeal.Body

@[expose] public section

set_option maxRecDepth 8000

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL

variable (X : Dev nD → Vec F S256x4096 .bf16) (W : Dev nD → Vec F S4096x512 .bf16)

/-! ## Products over a device's semaphores -/

/-- The semaphores of copies: whether of what arrives, along which direction, at which hop. -/
def copyCel : Bool × Bool × Fin 8 ↪ Cel :=
  ⟨fun t => if t.1 then .rcv t.2.1 t.2.2 else .snd t.2.1 t.2.2, by
    rintro ⟨x, b, h⟩ ⟨x', b', h'⟩ e
    cases x <;> cases x' <;> simp at e ⊢ <;> exact e⟩

theorem sep_cel (Φ : Cel → sProp 𝕄) : bigSep Finset.univ Φ
    = iprop(Φ .bar ∗ Φ .own ∗ ((bigSep Finset.univ fun h => Φ (.snd false h)) ∗ bigSep Finset.univ fun h => Φ (.snd true h))
      ∗ ((bigSep Finset.univ fun h => Φ (.rcv false h)) ∗ bigSep Finset.univ fun h => Φ (.rcv true h))) := by
  rw [show (Finset.univ : Finset Cel) = insert .bar (insert .own (Finset.univ.map copyCel)) by decide, bigSep_insert (by decide),
    bigSep_insert (by decide), bigSep_map, bigSep_univ_prod, sep_bool]
  simp only [bigSep_univ_prod, sep_bool]
  rfl

/-- The kernel's own semaphores. -/
abbrev osem (k : Fin 33) : SemLoc sig := .dma ⟨3 + k.val, Nat.add_lt_add_left k.isLt 3⟩

theorem ownSemFacts : Pipeline.OwnSemFacts cfg0.spec osem := by decide

theorem sems_split : ∀ c : Dev nD, (Finset.univ.map ⟨sem c, sem_injective c⟩ : Finset (SemLoc sig))
    = insert (.reg barS) (Finset.univ.map ⟨osem, ownSemFacts.inj⟩) := by decide +kernel

theorem own_sems (c : Dev nD) :
    (bigSep Finset.univ fun k : Cel => (semVal (cell (c, k)) 0 : sProp 𝕄))
      = iprop(unscopedSems0 c ∗ Pipeline.ownSems0 (Ix := Unit) (Name := ℕ) (U := UU) (Lvl := ℕ) (Val := Elt F) (τ := τ) osem c) := by
  have e : (bigSep Finset.univ fun k : Cel => (semVal (cell (c, k)) 0 : sProp 𝕄))
      = bigSep (Finset.univ.map ⟨sem c, sem_injective c⟩) fun sm => semVal ((c : Thread nD τ), sm) 0 := by rw [bigSep_map]; rfl
  have hu : (unscopedSems0 c : sProp 𝕄) = semVal ((c : Thread nD τ), .reg barS) 0 := by
    unfold unscopedSems0; rw [bigSep_eq_bigSepL_of_eq [SemLoc.reg barS] (by decide) (by decide)]; rfl
  rw [e, sems_split, bigSep_insert (by decide), bigSep_map, hu]
  rfl

theorem zeros_eq (c : Dev nD) : (zeros c : sProp 𝕄) = bigSep Finset.univ fun k : Cel => semVal (cell (c, k)) 0 := by
  rw [sep_cel]
  unfold zeros
  refine BI.Entails.antisymm ?_ ?_
  · show (_ : sProp 𝕄) ⊢ _
    iintro ⟨H1, H2, H3, H4, H5, H6⟩
    isplitl [H1]; · iexact H1
    isplitl [H2]; · iexact H2
    isplitl [H3 H4]
    · isplitl [H3] <;> iassumption
    · isplitl [H5] <;> iassumption
  · show (_ : sProp 𝕄) ⊢ _
    iintro ⟨H1, H2, ⟨H3, H4⟩, ⟨H5, H6⟩⟩
    isplitl [H1]; · iexact H1
    isplitl [H2]; · iexact H2
    isplitl [H3]; · iexact H3
    isplitl [H4]; · iexact H4
    isplitl [H5] <;> iassumption

/-! ## What is minted -/

def ringCells : Finset (GSem nD τ sig) := Finset.univ.map ⟨cell, cell_injective⟩
def tokOf (t : (Dev nD × Cel) × Bool) : GSem nD τ sig × ℕ × Bool := (cell t.1, 0, t.2)
theorem tokOf_injective : Function.Injective tokOf := by
  rintro ⟨x, b⟩ ⟨x', b'⟩ h
  have h1 : x = x' := cell_injective (congrArg Prod.fst h)
  have h2 : b = b' := congrArg (fun y : GSem nD τ sig × ℕ × Bool => y.2.2) h
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own semaphores. -/
def toks (c : Dev nD) : sProp 𝕄 := bigSep Finset.univ fun k : Cel => bigSep Finset.univ fun d : Bool => dutyTok ER (cell (c, k)) 0 d
def places (c : Dev nD) : sProp 𝕄 := bigSep Finset.univ fun k : Cel => atPos ER (cell (c, k)) 0 ∅ 0
def marks (c : Dev nD) : sProp 𝕄 := bigSep Finset.univ fun k : Cel => reached ER (cell (c, k)) 0
def states (c : Dev nD) : sProp 𝕄 := bigSep Finset.univ fun k : Cel => roundState ER (Rd X) (cell (c, k)) 0

def G (c : Dev nD) : sProp 𝕄 := iprop(states X c ∗ places c ∗ marks c ∗ toks c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Cel => Φ (cell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  have hG : bigSep Finset.univ (G X) = iprop((bigSep Finset.univ fun c => states X c) ∗ (bigSep Finset.univ fun c => places (F := F) c)
      ∗ (bigSep Finset.univ fun c => marks (F := F) c) ∗ bigSep Finset.univ fun c => toks (F := F) c) := by
    unfold G; rw [sep_pairs, sep_pairs, sep_pairs]
  rw [hG]
  iintro H
  imod (Rounds.fund ER (Rd X) ringCells ringToks) $$ H with ⟨Hst, Hr, Hat, Htok⟩
  imodintro
  isplitl [Hst]; · iapply (Entails.of_eq (hX fun g => roundState ER (Rd X) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-! ## The tokens round the ring -/

/-- The tokens of a device's own semaphores that anyone uses, -/
def ownToks (c : Dev nD) : sProp 𝕄 :=
  iprop(dutyTok ER (cell (c, .bar)) 0 false ∗ dutyTok ER (cell (c, .bar)) 0 true
    ∗ (bigSep Finset.univ fun h => dutyTok ER (cell (c, .snd false h)) 0 false) ∗ (bigSep Finset.univ fun h => dutyTok ER (cell (c, .snd true h)) 0 false)
    ∗ (bigSep Finset.univ fun h => dutyTok ER (cell (c, .rcv false h)) 0 false) ∗ (bigSep Finset.univ fun h => dutyTok ER (cell (c, .rcv true h)) 0 false))
/-- and the tokens the device itself uses. -/
def payToks (c : Dev nD) : sProp 𝕄 :=
  iprop(dutyTok ER (cell (pv c false, .bar)) 0 false ∗ dutyTok ER (cell (pv c true, .bar)) 0 true
    ∗ (bigSep Finset.univ fun h => dutyTok ER (cell (c, .snd false h)) 0 false) ∗ (bigSep Finset.univ fun h => dutyTok ER (cell (c, .snd true h)) 0 false)
    ∗ (bigSep Finset.univ fun h => dutyTok ER (cell (nx c false, .rcv false h)) 0 false) ∗ (bigSep Finset.univ fun h => dutyTok ER (cell (nx c true, .rcv true h)) 0 false))

theorem first_tok {ι : Type} [Fintype ι] (e : ι → GSem nD τ sig) :
    (bigSep Finset.univ fun i => bigSep Finset.univ fun d : Bool => (dutyTok ER (e i) 0 d : sProp 𝕄)) ⊢ bigSep Finset.univ fun i => dutyTok ER (e i) 0 false := by
  refine sep_each fun i => ?_
  rw [sep_bool]
  show iprop(_ ∗ _) ⊢ (_ : sProp 𝕄)
  iintro ⟨H, -⟩
  iexact H

theorem own_toks (c : Dev nD) : (toks c : sProp 𝕄) ⊢ ownToks c := by
  unfold toks ownToks
  rw [sep_cel, sep_bool]
  iintro ⟨⟨B1, B2⟩, -, ⟨S1, S2⟩, ⟨R1, R2⟩⟩
  isplitl [B1]; · iexact B1
  isplitl [B2]; · iexact B2
  isplitl [S1]; · iapply (first_tok fun h => cell (c, .snd false h)); iexact S1
  isplitl [S2]; · iapply (first_tok fun h => cell (c, .snd true h)); iexact S2
  isplitl [R1]; · iapply (first_tok fun h => cell (c, .rcv false h)); iexact R1
  iapply (first_tok fun h => cell (c, .rcv true h)); iexact R2

theorem toks_around : (bigSep Finset.univ fun c : Dev nD => (toks c : sProp 𝕄)) ⊢ bigSep Finset.univ fun c : Dev nD => payToks c := by
  refine (sep_each own_toks).trans (Entails.of_eq ?_)
  unfold ownToks payToks
  rw [sep_pairs, sep_pairs, sep_pairs, sep_pairs, sep_pairs, sep_pairs, sep_pairs, sep_pairs, sep_pairs, sep_pairs,
    bigSep_univ_equiv (turn false).symm (fun c : Dev nD => (dutyTok ER (cell (c, .bar)) 0 false : sProp 𝕄)),
    bigSep_univ_equiv (turn true).symm (fun c : Dev nD => (dutyTok ER (cell (c, .bar)) 0 true : sProp 𝕄)),
    bigSep_univ_equiv (turn false) (fun c : Dev nD => (bigSep Finset.univ fun h => dutyTok ER (cell (c, .rcv false h)) 0 false : sProp 𝕄)),
    bigSep_univ_equiv (turn true) (fun c : Dev nD => (bigSep Finset.univ fun h => dutyTok ER (cell (c, .rcv true h)) 0 false : sProp 𝕄))]
  rfl

/-! ## The semaphores under the agreement -/

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (cell (c, k)))) ∗ places c ∗ marks c ∗ toks c) := by
  have hv := Entails.of_eq (own_sems (F := F) c).symm
  have hi : iprop((bigSep Finset.univ fun k : Cel => semVal (cell (c, k)) 0) ∗ states X c)
      ⊢ (|={Set.univ}=> bigSep Finset.univ fun k => iprop(∃ κ : ℕ, cellInv ER (Rd X) κ (cell (c, k))) : sProp 𝕄) := by
    unfold states
    rw [← sep_pairs]
    exact (bigSep_mono fun k _ => (Rounds.body_intro ER (Rd X) (cell (c, k))).trans inv_alloc).trans (bigSep_fupd _ _)
  unfold G
  iintro ⟨Hos, Hus, Hst, Hat, Hr, Htok⟩
  ihave Hv := hv $$ [Hos Hus]
  · isplitl [Hus] <;> iassumption
  imod hi $$ [Hv Hst] with Hinv
  · isplitl [Hv] <;> iassumption
  imodintro
  isplitl [Hinv]; · iexact Hinv
  isplitl [Hat]; · iexact Hat
  isplitl [Hr] <;> iassumption

def records (K : Dev nD × Cel → ℕ) : sProp 𝕄 :=
  iprop((bigSep Finset.univ fun ck : Dev nD × Cel => cellInv ER (Rd X) (K ck) (cell ck)) ∗ bigSep Finset.univ fun ck : Dev nD × Cel => reached ER (cell ck) 0)
instance records_persistent (K : Dev nD × Cel → ℕ) : BI.Persistent (records X K) := by unfold records; infer_instance

/-- What a device goes on with. -/
def G' (c : Dev nD) : sProp 𝕄 := iprop(∃ K, records X K ∗ places c ∗ payToks c)

theorem with_each {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (BIClass.sep_mono (BI.bigSep_of_persistent Finset.univ R) BIBase.Entails.refl).trans (by rw [← sep_pairs]; exact sep_each h)

theorem regroup :
    (bigSep Finset.univ fun c : Dev nD => iprop((bigSep Finset.univ fun k => iprop(∃ κ : ℕ, cellInv ER (Rd X) κ (cell (c, k)))) ∗ places c ∗ marks c ∗ toks c) : sProp 𝕄)
      ⊢ bigSep Finset.univ (G' X) := by
  have hg (K : Dev nD × Cel → ℕ) (c : Dev nD) : iprop(records X K ∗ places c ∗ payToks c) ⊢ G' X c := by
    unfold G'
    iintro H
    iexists K
    iexact H
  rw [sep_pairs, sep_pairs, sep_pairs, ← bigSep_univ_prod (fun ck : Dev nD × Cel => iprop(∃ κ : ℕ, cellInv ER (Rd X) κ (cell ck)))]
  have hm : (bigSep Finset.univ fun c : Dev nD => (marks c : sProp 𝕄)) = bigSep Finset.univ fun ck : Dev nD × Cel => reached ER (cell ck) 0 := by
    unfold marks; rw [bigSep_univ_prod]
  rw [hm]
  iintro ⟨HI, Hat, #HR, Htok⟩
  ihave HK := (BI.bigSep_exists_pi Finset.univ (fun (ck : Dev nD × Cel) (κ : ℕ) => (cellInv ER (Rd X) κ (cell ck) : sProp 𝕄))) $$ HI
  icases HK with ⟨%K, #HI⟩
  ihave Htk := (toks_around (F := F)) $$ Htok
  iapply (with_each (R := records X K) (Φ := fun c => iprop(places c ∗ payToks c)) fun c => hg K c)
  isplitr
  · unfold records; isplitl; · iexact HI
    iexact HR
  · iapply (Entails.of_eq (sep_pairs Finset.univ (fun c : Dev nD => (places c : sProp 𝕄)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((sep_each fun c => core_alloc X c).trans (bigSep_fupd _ _)).trans (BI.fupd_mono (regroup X))

/-! ## The credits -/

theorem cell_rcv_iff {d c : Dev nD} {b b' : Bool} {h h' : Fin 8} : cell (d, .rcv b h) = cell (c, .rcv b' h') ↔ d = c ∧ (b', h') = (b, h) :=
  ⟨fun e => by have := cell_injective e; simp only [Prod.mk.injEq, Cel.rcv.injEq] at this; exact ⟨this.1, Prod.ext this.2.1.symm this.2.2.symm⟩,
    fun ⟨e, e'⟩ => by cases e; cases e'; rfl⟩
theorem cell_bar_iff {d c : Dev nD} : cell (d, .bar) = cell (c, .bar) ↔ d = c :=
  ⟨fun e => congrArg Prod.fst (cell_injective e), fun e => e ▸ rfl⟩
theorem rcv_ne_bar {d c : Dev nD} {b : Bool} {h : Fin 8} : cell (d, .rcv b h) ≠ cell (c, .bar) := fun e => by
  have := congrArg Prod.snd (cell_injective e); exact absurd this (fun h => by cases h)

theorem owed_at_rcv (d c : Dev nD) (b : Bool) (h : Fin 8) (l : List (Bool × Fin 8)) :
    owed d l (cell (c, .rcv b h)) () = if d = pv c b then l.count (b, h) * amt h else 0 := by
  have hd : d = pv c b ↔ c = nx d b := ⟨fun e => by rw [e, nx_pv], fun e => by rw [e, pv_nx]⟩
  induction l with
  | nil => show 0 = _; rw [List.count_nil, Nat.zero_mul, ite_self]
  | cons t l ih =>
    show (owed d l + tallyAt (cell (nx d t.1, .rcv t.1 t.2)) () (amt t.2)) _ _ = _
    rw [Pi.add_apply, Finsupp.add_apply, tallyAt_apply, ih, List.count_cons]
    by_cases ht : t = (b, h)
    · subst ht
      by_cases hc : d = pv c b
      · rw [if_pos hc, if_pos ⟨cell_rcv_iff.2 ⟨hd.1 hc, rfl⟩, rfl⟩, if_pos hc]
        simp only [beq_self_eq_true, if_true]; rw [Nat.add_mul, Nat.one_mul]
      · rw [if_neg hc, if_neg (fun e => hc (hd.2 (cell_rcv_iff.1 e.1).1)), if_neg hc]
    · have hn : ¬(cell (c, .rcv b h) = cell (nx d t.1, .rcv t.1 t.2) ∧ () = ()) := fun e => ht (cell_rcv_iff.1 e.1).2
      rw [if_neg hn, Nat.add_zero, if_neg (fun e => ht (eq_of_beq e)), Nat.add_zero]

theorem owed_at_bar (d c : Dev nD) (l : List (Bool × Fin 8)) : owed d l (cell (c, .bar)) () = 0 := by
  induction l with
  | nil => rfl
  | cons t l ih =>
    show (owed d l + tallyAt (cell (nx d t.1, .rcv t.1 t.2)) () (amt t.2)) _ _ = _
    rw [Pi.add_apply, Finsupp.add_apply, tallyAt_apply, ih, if_neg (fun e => rcv_ne_bar e.1.symm)]

theorem rest_once : ∀ t : Bool × Fin 8, (rest 0).count t = 1 := by decide

theorem due_rcv (d c : Dev nD) (b : Bool) (h : Fin 8) : O₀ d (cell (c, .rcv b h)) () = if d = pv c b then amt h else 0 := by
  have hn (b' : Bool) : ¬(cell (c, .rcv b h) = cell (pv d b', .bar) ∧ () = ()) := fun e => rcv_ne_bar e.1
  unfold O₀ O₁
  rw [Pi.add_apply, Finsupp.add_apply, Pi.add_apply, Finsupp.add_apply, tallyAt_apply, tallyAt_apply, owed_at_rcv, rest_once, Nat.one_mul,
    if_neg (hn true), if_neg (hn false)]
  exact Nat.add_zero _
theorem due_bar (d c : Dev nD) : O₀ d (cell (c, .bar)) () = (if d = nx c true then 1 else 0) + (if d = nx c false then 1 else 0) := by
  have hd (b : Bool) : (cell (c, .bar) = cell (pv d b, .bar) ∧ () = ()) ↔ d = nx c b :=
    ⟨fun e => by rw [cell_bar_iff.1 e.1, nx_pv], fun e => ⟨cell_bar_iff.2 (by rw [e, pv_nx]), rfl⟩⟩
  unfold O₀ O₁
  rw [Pi.add_apply, Finsupp.add_apply, Pi.add_apply, Finsupp.add_apply, tallyAt_apply, tallyAt_apply, owed_at_bar, Nat.zero_add,
    if_congr (hd true) rfl rfl, if_congr (hd false) rfl rfl]

theorem launch_bar (c : Dev nD) :
    tallyOn (cell (c, .bar)) (launchCredit (Pipeline.owing O₀) 0 (cell (c, .bar))) = (tallyAt (cell (c, .bar)) () 2 : CellTallies nD τ sig Unit) := by
  unfold tallyAt; refine congrArg _ (Finsupp.ext fun u => ?_); cases u
  rw [Pipeline.launchCredit_owing, Finsupp.single_eq_same, Finset.sum_congr rfl fun d _ => due_bar d c, Finset.sum_add_distrib,
    Finset.sum_ite_eq' Finset.univ (nx c true) fun _ => 1, Finset.sum_ite_eq' Finset.univ (nx c false) fun _ => 1, if_pos (Finset.mem_univ _), if_pos (Finset.mem_univ _)]
theorem launch_rcv (c : Dev nD) (b : Bool) (h : Fin 8) :
    tallyOn (cell (c, .rcv b h)) (launchCredit (Pipeline.owing O₀) 0 (cell (c, .rcv b h))) = (tallyAt (cell (c, .rcv b h)) () (amt h) : CellTallies nD τ sig Unit) := by
  unfold tallyAt; refine congrArg _ (Finsupp.ext fun u => ?_); cases u
  rw [Pipeline.launchCredit_owing, Finsupp.single_eq_same, Finset.sum_congr rfl fun d _ => due_rcv d c b h, Finset.sum_ite_eq' Finset.univ (pv c b) fun _ => amt h,
    if_pos (Finset.mem_univ _)]

theorem creds (c : Dev nD) : (Pipeline.launchCred O₀ c : sProp 𝕄)
    ⊢ iprop(cred (tallyAt (cell (c, .bar)) () 2) ∗ (bigSep Finset.univ fun h => cred (tallyAt (cell (c, .rcv false h)) () (amt h)))
      ∗ bigSep Finset.univ fun h => cred (tallyAt (cell (c, .rcv true h)) () (amt h))) := by
  have hs : (Pipeline.launchCred O₀ c : sProp 𝕄)
      ⊢ bigSep Finset.univ fun k : Cel => cred (tallyOn (cell (c, k)) (launchCredit (Pipeline.owing O₀) 0 (cell (c, k)))) := by
    unfold Pipeline.launchCred
    refine BI.Entails.trans (bigSep_subset (Finset.subset_univ (Finset.univ.map ⟨sem c, sem_injective c⟩))) ?_
    rw [bigSep_map]
    exact BI.Entails.refl _
  refine BIBase.Entails.trans hs ?_
  rw [sep_cel, launch_bar]
  simp only [launch_rcv]
  iintro ⟨H, -, -, ⟨H1, H2⟩⟩
  isplitl [H]; · iexact H
  isplitl [H1] <;> iassumption

/-- Places, tokens and credits are what the body starts with. -/
theorem tokens_intro (c : Dev nD) : iprop(places c ∗ payToks c ∗ Pipeline.launchCred O₀ c) ⊢ (tokens c : sProp 𝕄) := by
  have hm (b : Bool) : iprop((bigSep Finset.univ fun h => dutyTok ER (cell (c, .snd b h)) 0 false) ∗ (bigSep Finset.univ fun h => dutyTok ER (cell (nx c b, .rcv b h)) 0 false)
      ∗ bigSep Finset.univ fun h => atPos ER (cell (c, .snd b h)) 0 ∅ 0) ⊢ (bigSep Finset.univ fun h => mine c b h : sProp 𝕄) := by
    unfold mine
    rw [sep_pairs, sep_pairs]
  have hd (b : Bool) : iprop((bigSep Finset.univ fun h => atPos ER (cell (c, .rcv b h)) 0 ∅ 0) ∗ bigSep Finset.univ fun h => cred (tallyAt (cell (c, .rcv b h)) () (amt h)))
      ⊢ (bigSep Finset.univ fun h => due c (.rcv b h) (amt h) : sProp 𝕄) := by
    unfold due
    rw [sep_pairs]
  unfold places payToks tokens
  rw [sep_cel]
  iintro ⟨⟨A, Ao, ⟨A1, A2⟩, ⟨A3, A4⟩⟩, ⟨T1, T2, S1, S2, R1, R2⟩, Hc⟩
  ihave Hc := (creds (F := F) c) $$ Hc
  icases Hc with ⟨C, C1, C2⟩
  isplitl [A C]
  · unfold due
    isplitl [A] <;> iassumption
  isplitl [Ao]; · iexact Ao
  isplitl [T1]; · iexact T1
  isplitl [T2]; · iexact T2
  isplitl [A1 S1 R1]
  · iapply (hm false)
    isplitl [S1]; · iexact S1
    isplitl [R1] <;> iassumption
  isplitl [A2 S2 R2]
  · iapply (hm true)
    isplitl [S2]; · iexact S2
    isplitl [R2] <;> iassumption
  isplitl [A3 C1]
  · iapply (hd false)
    isplitl [A3] <;> iassumption
  · iapply (hd true)
    isplitl [A4] <;> iassumption

end Cert.KernelIdeal.Ring

end
-- ==== Proof.KernelIdeal.Run.lean ====
/- The run of the whole mesh: it ends, every device's result holds what the body leaves there, and every semaphore is back
   at zero. -/
module

public import proofs.«01_k».proof.Proof.KernelIdeal.Deal
public import Idealize.ShloMosaic.Lib.Pipeline.CollectiveSegs

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The blocks of `x` and of the weights a device is given. -/
def xAt (c : Dev nD) : Vec F S256x4096 .bf16 := (win0_0.blk (0 : Fin 1)).view.read (Elt F) (m ((c : Thread nD τ).loc main_arg0))
def wAt (c : Dev nD) : Vec F S4096x512 .bf16 := (win0_1.blk (0 : Fin 1)).view.read (Elt F) (m ((c : Thread nD τ).loc main_arg1))

/-! ## The stages of the call -/

def start (c : Dev nD) : sProp 𝕄 := iprop((∃ K, ctx (xAt m) K) ∗ tokens c)
def Φ₀ (c : Dev nD) : sProp 𝕄 := iprop(start m c ∗ ∃ f, gL c ↦{fullShare} f)
def Φ₁ (c : Dev nD) : sProp 𝕄 := iprop((gL c ↦{fullShare} gath (xAt m)) ∗ zeros c)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => out (xAt m) (wAt m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

theorem before_x (c : Dev nD) (d) : (dats m 0 c).before (0 : Fin 3) t0_0 d = xAt m c := by
  unfold Dat.before; rw [if_pos (fetch0_0 t0_0)]; rfl
theorem before_w (c : Dev nD) (d) : (dats m 0 c).before (1 : Fin 3) t0_0 d = wAt m c := by
  unfold Dat.before; rw [if_pos (fetch0_1 t0_0)]; rfl

/-- A staging buffer at given contents. -/
def stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d)) ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt () t0_0.succ
    ∗ stg c cc0_stg0_0 (xAt m c) ∗ stg c cc0_stg1_0 (wAt m c) ∗ stg c cc0_stg2_0 (out (xAt m) (wAt m) c))

theorem sound (c : Dev nD) : bodyPre m c ⊢ run c bodyCall fun _ => bodyPost m c := by
  unfold bodyPre Φ₀ start stg Dat.owesAt Pipeline.owesWithin
  iintro ⟨⟨⟨⟨%K, Hc⟩, Ht⟩, ⟨%fg, Hg⟩⟩, ⟨%Ws, -, Ho⟩, ⟨%dx, %fx, %hx, Hx⟩, ⟨%dw, %fw, %hw, Hw⟩, ⟨%d, %fo, -, Hf⟩⟩
  have hx' := hx.trans (before_x m c dx)
  have hw' := hw.trans (before_w m c dw)
  subst hx' hw'
  iapply (last c (body_spec (xAt m) (wAt m) K c fg fo)) $$ [Hc Ht Ho Hx Hw Hg Hf]
  · isplitl [Hc]; · iexact Hc
    isplitl [Ht]; · iexact Ht
    isplitl [Ho]
    · unfold ow; iexists Ws; iexact Ho
    isplitl [Hx]; · iexact Hx
    isplitl [Hw]; · iexact Hw
    isplitl [Hg]; · iexact Hg
    iexact Hf
  unfold bodyPost Φ₁ stg Dat.owesAt Pipeline.owesWithin ow
  iintro ⟨⟨%Ws', Ho⟩, Hx, Hw, Hg, Hf, Hz⟩
  isplitl [Hg Hz]
  · isplitl [Hg] <;> iassumption
  isplitl [Ho]
  · iexists Ws'
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hf

theorem windows (Φ : Fin cfg0.W → sProp 𝕄) : bigSep Finset.univ Φ = iprop(Φ (0 : Fin 3) ∗ Φ (1 : Fin 3) ∗ Φ (2 : Fin 3)) := bigSep_W0 Φ

theorem body_obligation (c : Dev nD) : BodyObligation (dats m 0 c) (defs₀ (F := F)) 𝒱₀ () Set.univ := fun t => by
  rw [fin_N0 t]
  rw [windows, windows]
  simp only [owns_whole_eq]
  exact sound m c

/-! ## Entering and leaving -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xAt m) c)
      ⊢ |={Set.univ}=> iprop(start m c ∗ emp) := by
  unfold G' start
  iintro ⟨-, Hlev, Hcr, -, ⟨%K, HI, Hp, Ht⟩⟩
  imodintro
  isplitl
  · isplitl [HI Hlev]
    · iexists K
      unfold ctx levs
      unfold records
      isplitl [HI] <;> iassumption
    · iapply (tokens_intro (F := F) c)
      isplitl [Hp]; · iexact Hp
      isplitl [Ht] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  have hz := Entails.of_eq ((zeros_eq (F := F) c).trans (own_sems c))
  rw [show (dats m 0 c).Φ (Fin.last cfg0.N) = Φ₁ m c from rfl, scopedRest0_eq]
  unfold Φ₁
  iintro ⟨Hr, Hz⟩
  ihave Hz := hz $$ Hz
  icases Hz with ⟨Hu, Ho⟩
  isplitl [Hu]; · iexact Hu
  isplitl [Ho]; · iexact Ho
  iexists (gath (xAt m)); iexact Hr

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hl : ∀ (d : Dev nD) (q : DmaSem sig), q.val < 3 → lvOf (role d (.dma q)) = 0 := by decide +kernel
  rcases hO with rfl | rfl
  · exact mayWait_launch c _ (hl c q hq)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with semaphores at zero every fair execution ends, with every array at its final contents and every
    semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xAt m)) (G' := G' (xAt m)) (u₀ := u₀)
    (hu₀ := by
      unfold u₀
      iintro Hu
      ihave H := (ownU_pair _ _) $$ Hu
      icases H with ⟨HP, HX⟩
      imod (fund_ring (xAt m)) $$ HX with HG
      imodintro
      isplitl [HP] <;> iassumption)
    (hglob := glob (xAt m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m c (0 : Fin 3) = m ((c : Thread nD τ).loc main_arg0) := (dats m 0 c).arrAt_in (0 : Fin 3) rfl _
theorem final_w (c : Dev nD) : finalA m c (1 : Fin 3) = m ((c : Thread nD τ).loc main_arg1) := (dats m 0 c).arrAt_in (1 : Fin 3) rfl _

end Cert.KernelIdeal.Ring

end
-- ==== Proof.Values.Result.lean ====
/- What the arrays hold at the end of the kernel's run: each device is given its whole blocks, and its result is what the
   body leaves. -/
module

public import proofs.«01_k».proof.Proof.KernelIdeal.Run
public import Idealize.ShloMosaic.Lib.Pipeline.ValueKit.Geometry

@[expose] public section

set_option maxRecDepth 8000

noncomputable section

namespace Cert.KernelIdeal.Ring

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The one block of a window over a whole array starts at its origin. -/
theorem origin_x (i : S256x4096.Idx) : (win0_0.blk (0 : Fin 1)).view.emb i = i := funext fun a => Fin.ext
  (Pipeline.Window.rect_emb_val_of_index_zero win0_0 (0 : Fin 1) a rfl i)
theorem origin_w (i : S4096x512.Idx) : (win0_1.blk (0 : Fin 1)).view.emb i = i := funext fun a => Fin.ext
  (Pipeline.Window.rect_emb_val_of_index_zero win0_1 (0 : Fin 1) a rfl i)

theorem xAt_eq (c : Dev nD) : xAt m c = m ((c : Thread nD τ).loc main_arg0) := funext fun i =>
  congrArg (m ((c : Thread nD τ).loc main_arg0)) (origin_x i)
theorem wAt_eq (c : Dev nD) : wAt m c = m ((c : Thread nD τ).loc main_arg1) := funext fun i =>
  congrArg (m ((c : Thread nD τ).loc main_arg1)) (origin_w i)

/-- The result array ends as the body's result. -/
theorem final_out (c : Dev nD) : finalA m c (2 : Fin 3) = out (xAt m) (wAt m) c :=
  (dats m 0 c).arrAt_eq_of_after_last (2 : Fin 3) t0_0 (by decide +kernel) _ fun _ => rfl

end Cert.KernelIdeal.Ring

end
-- ==== Proof.Values.Block.lean ====
/- What one block of the kernel computes, over the extended reals: each element is the activation of one dot product. -/
module

public import proofs.«01_k».proof.Proof.Gen.KernelIdeal.Skeleton
public import Idealize.ShloMosaic.Lib.MatmulPlain
public import Idealize.ShloMosaic.Lib.Pipeline.Value

@[expose] public section

set_option maxRecDepth 8000

noncomputable section

namespace Cert.Values

open Idealize.ShloMosaic Idealize.ShloMosaic.ValueIdx
open Cert.KernelIdeal Cert.KernelIdeal.Gen
open scoped BigOperators

/-- The tanh form of the activation, multiplied out in the order the reference takes. -/
def act (y : Ideal .f32) : Ideal .f32 :=
  FloatOps.mulf (FloatOps.mulf (FloatOps.ofBits .f32 0x3F000000#32) y)
    (FloatOps.addf (FloatOps.ofBits .f32 0x3F800000#32)
      (FloatOps.tanh (FloatOps.mulf (FloatOps.ofBits .f32 0x3F4C422A#32)
        (FloatOps.addf y (FloatOps.mulf (FloatOps.ofBits .f32 0x3D372713#32) (FloatOps.mulf (FloatOps.mulf y y) y))))))

/-- The kernel multiplies the cubic term from the constant on; the product is the same. -/
theorem cube (k y : Ideal .f32) :
    FloatOps.mulf (FloatOps.mulf (FloatOps.mulf k y) y) y = FloatOps.mulf k (FloatOps.mulf (FloatOps.mulf y y) y) := by
  simp only [Ideal.mulf_def]
  rw [mul_assoc, mul_assoc, mul_assoc]

/-- A product onto zeros, at one element. -/
theorem dot_zero {M K N : ℕ} (x : FVec Ideal ⟨2, ![M, K]⟩ .bf16) (w : FVec Ideal ⟨2, ![K, N]⟩ .bf16) (r : Fin M) (j : Fin N) :
    matmul (DotDims.plain M K N) none x w (constant ⟨2, ![M, N]⟩ .f32 0x00000000#32) (ix2 r j)
      = ∑ k : Fin K, x (ix2 r k) * w (ix2 k j) := by
  unfold matmul
  rw [Ideal.matmul_plain_apply]
  exact (congrArg (· + _) (show (constant ⟨2, ![M, N]⟩ .f32 0x00000000#32 : FVec Ideal ⟨2, ![M, N]⟩ .f32) (ix2 r j) = 0 from Ideal.ofBits_zero_f32)).trans
    (zero_add _)

/-- The activation of a product, as the kernel writes it for any number of rows. -/
theorem act_dot {M K N : ℕ} (x : FVec Ideal ⟨2, ![M, K]⟩ .bf16) (w : FVec Ideal ⟨2, ![K, N]⟩ .bf16) (y : FVec Ideal ⟨2, ![M, N]⟩ .f32)
    (hy : y = matmul (DotDims.plain M K N) none x w (constant ⟨2, ![M, N]⟩ .f32 0x00000000#32)) (r : Fin M) (j : Fin N) :
    mulf (mulf (broadcast ⟨2, ![M, N]⟩ (Scalar.ofBits .f32 0x3F000000#32)) y)
      (addf (broadcast ⟨2, ![M, N]⟩ (Scalar.ofBits .f32 0x3F800000#32))
        (tanh (mulf (broadcast ⟨2, ![M, N]⟩ (Scalar.ofBits .f32 0x3F4C422A#32))
          (addf y (mulf (mulf (mulf (broadcast ⟨2, ![M, N]⟩ (Scalar.ofBits .f32 0x3D372713#32)) y) y) y))))) (ix2 r j)
      = act (∑ k : Fin K, x (ix2 r k) * w (ix2 k j)) := by
  have h : y (ix2 r j) = ∑ k : Fin K, x (ix2 r k) * w (ix2 k j) := by rw [hy]; exact dot_zero x w r j
  rw [← h]
  unfold act
  rw [← cube]
  rfl

/-- A block of 256 rows. -/
theorem pay_256 (x : Vec Ideal S256x4096 .bf16) (w : Vec Ideal S4096x512 .bf16) (r : Fin 256) (j : Fin 512) :
    k0_pay3 x w (ix2 r j) = act (∑ k : Fin 4096, x (ix2 r k) * w (ix2 k j)) := by
  have hw : shapeCast S4096x512 w shapeCasts_S4096x512_S4096x512 = w := shapeCast_self _ _
  unfold k0_pay3
  rw [hw]
  exact act_dot x w _ rfl r j

/-- A block of 128 rows. -/
theorem pay_128 (x : Vec Ideal S128x4096 .bf16) (w : Vec Ideal S4096x512 .bf16) (r : Fin 128) (j : Fin 512) :
    k0_pay30 x w (ix2 r j) = act (∑ k : Fin 4096, x (ix2 r k) * w (ix2 k j)) := by
  have hw : shapeCast S4096x512 w shapeCasts_S4096x512_S4096x512 = w := shapeCast_self _ _
  unfold k0_pay30
  rw [hw]
  exact act_dot x w _ rfl r j

end Cert.Values

end
-- ==== Proof.Values.Reference.lean ====
/- What the reference computes: each element is the activation of one dot product. -/
module

public import proofs.«01_k».proof.Proof.Values.Block
public import proofs.«01_k».proof.Proof.Gen.ReferenceIdeal.Read

@[expose] public section

noncomputable section

namespace Cert.Values

open Idealize.ShloMosaic Idealize.ShloMosaic.ValueIdx
open Cert.ReferenceIdeal Cert.ReferenceIdeal.Read
open scoped BigOperators

/-- The reference's result on whole arrays. -/
def whole (x : Vec Ideal S4096x4096 .bf16) (w : Vec Ideal S4096x8192 .bf16) : Vec Ideal S4096x8192 .f32 := val_main_v15 (F := Ideal) x w

theorem whole_apply (x : Vec Ideal S4096x4096 .bf16) (w : Vec Ideal S4096x8192 .bf16) (r : Fin 4096) (j : Fin 8192) :
    whole x w (ix2 r j) = act (∑ k : Fin 4096, x (ix2 r k) * w (ix2 k j)) := by
  have hy : val_main_v2 (F := Ideal) x w (ix2 r j) = ∑ k : Fin 4096, x (ix2 r k) * w (ix2 k j) := by
    rw [val_main_v2_apply, val_main_v1_apply, Ideal.extf_def, Ideal.truncf_def, val_main_v0_apply]
    refine Finset.sum_congr rfl fun k _ => ?_
    have hl : lidx_main_v0 (ix2 r j) k = ix2 r k := funext fun a => by match a with | ⟨0, _⟩ => rfl | ⟨1, _⟩ => rfl
    have hr : ridx_main_v0 (ix2 r j) k = ix2 k j := funext fun a => by match a with | ⟨0, _⟩ => rfl | ⟨1, _⟩ => rfl
    rw [hl, hr]
  unfold whole
  rw [val_main_v15_apply, val_main_v4_apply, val_main_v14_apply, val_main_v3_apply, val_main_v13_apply, val_main_v12_apply,
    val_main_v11_apply, val_main_v10_apply, val_main_v9_apply, val_main_v8_apply, val_main_v7_apply, val_main_v6_apply,
    val_main_v5_apply, hy]
  rfl

end Cert.Values

end
-- ==== Proof.Values.Equation.lean ====
/- The equation: where the devices hold the row blocks of `x` and the column blocks of `w`, what a device's result holds is
   its column block of the reference's result. -/
module

public import proofs.«01_k».proof.Proof.KernelIdeal.Rows
public import proofs.«01_k».proof.Proof.Values.Reference
public import Idealize.ShloMosaic.Lib.Layout

@[expose] public section

set_option maxRecDepth 8000

noncomputable section

namespace Cert.Values

open Idealize.ShloMosaic Idealize.ShloMosaic.ValueIdx
open Cert.KernelIdeal Cert.KernelIdeal.Gen Cert.KernelIdeal.Ring
open scoped BigOperators

variable (x : Vec Ideal S4096x4096 .bf16) (w : Vec Ideal Cert.ReferenceIdeal.S4096x8192 .bf16)

/-- The blocks the devices hold. -/
def xBlock (c : Dev nD) : Vec Ideal S256x4096 .bf16 := Layout.block ⟨2, ![256, 4096]⟩ ⟨2, ![4096, 4096]⟩ 0 16 c x
def wBlock (c : Dev nD) : Vec Ideal S4096x512 .bf16 := Layout.block ⟨2, ![4096, 512]⟩ ⟨2, ![4096, 8192]⟩ 1 16 c w

/-- Column `j` of device `c`'s block, in the whole. -/
def col (c : Dev nD) (j : Fin 512) : Fin 8192 := ⟨512 * c.val + j.val, by have h := c.isLt; change c.val < 16 at h; omega⟩

theorem block_col {α : Type} (c : Dev nD) (v : (⟨2, ![4096, 8192]⟩ : Shape).Idx → α) (r : Fin 4096) (j : Fin 512) :
    Layout.block ⟨2, ![4096, 512]⟩ ⟨2, ![4096, 8192]⟩ 1 16 c v (by decide) (ix2 r j) = v (ix2 r (col c j)) := by
  refine congrArg v (funext fun a => Fin.ext ?_)
  match a with
  | ⟨0, _⟩ => rfl
  | ⟨1, _⟩ => show c.val * 512 + j.val = 512 * c.val + j.val; omega

/-- The gathered blocks are the whole of `x`. -/
theorem gath_whole : gath (xBlock x) = x := by
  funext i
  have hi : (i 0).val < 4096 := idx2_lt0 i
  unfold gath xBlock
  rw [Layout.block_apply]
  refine congrArg x (funext fun a => Fin.ext ?_)
  match a with
  | ⟨0, _⟩ =>
    show (i 0).val / 256 % 16 * 256 + (i 0).val % 256 % 256 = (i 0).val
    omega
  | ⟨1, _⟩ => rfl

/-- Rows of the gathered buffer are rows of `x`. -/
theorem rows_whole {n lo : ℕ} (r : Fin n) (k : Fin 4096) (R : Fin 4096) (hR : R.val = lo + r.val) :
    gathRows (xBlock x) lo n (ix2 r k) = x (ix2 R k) := by
  unfold gathRows
  rw [gath_whole]
  refine congrArg x (congrArg (fun a => ix2 a k) (Fin.ext ?_))
  show (lo + r.val) % 4096 = R.val
  rw [← hR]; exact Nat.mod_eq_of_lt R.isLt

/-- One dot product of a device is one of the whole. -/
theorem dot_whole {n lo : ℕ} (c : Dev nD) (r : Fin n) (R : Fin 4096) (hR : R.val = lo + r.val) (j : Fin 512) :
    act (∑ k : Fin 4096, gathRows (xBlock x) lo n (ix2 r k) * wBlock w c (ix2 k j)) = whole x w (ix2 R (col c j)) := by
  rw [whole_apply]
  refine congrArg act (Finset.sum_congr rfl fun k _ => ?_)
  rw [rows_whole x r k R hR]
  exact congrArg (x (ix2 R k) * ·) (block_col c w k j)

/-- What a device's result holds is its block of the reference's. -/
theorem out_whole (c : Dev nD) :
    out (xBlock x) (wBlock w) c = Layout.block ⟨2, ![4096, 512]⟩ ⟨2, ![4096, 8192]⟩ 1 16 c (whole x w) := by
  funext i
  have hi : (i 0).val < 4096 := idx2_lt0 i
  refine Eq.trans ?_ ((block_col c (whole x w) (i 0) (i 1)).symm.trans (congrArg _ (eq_ix2 i).symm))
  unfold out
  split
  · refine (pay_128 _ _ _ (i 1)).trans ?_
    exact dot_whole x w c _ (i 0) (by show (i 0).val = 128 * ((i 0).val / 128) + (i 0).val % 128 % 128; omega) (i 1)
  · refine (pay_256 _ _ _ (i 1)).trans ?_
    exact dot_whole x w c _ (i 0) (by show (i 0).val = 256 * ((i 0).val / 256) + (i 0).val % 256 % 256; omega) (i 1)

end Cert.Values

end
-- ==== Proof.lean ====
module

public import proofs.«01_k».proof.Defs
public import proofs.«01_k».proof.Proof.Kernel.Run
public import proofs.«01_k».proof.Proof.KernelIdeal.Run
public import proofs.«01_k».proof.Proof.Values.Result
public import proofs.«01_k».proof.Proof.Values.Equation
public import proofs.«01_k».proof.Proof.Gen.ReferenceIdeal.Run
public import proofs.«01_k».proof.Proof.Gen.ReferenceIdeal.Read
public import Idealize.ShloMosaic.Lib.StableHlo.Run

@[expose] public section

noncomputable section

namespace Cert.Proof

open Idealize.ShloMosaic Idealize.ShloMosaic.TcCoe Idealize.SL.Sem

/-- The kernel over machine words ends, leaves its arguments alone and every semaphore at zero. -/
theorem kernel_ends : Cert.quiescent_Kernel := fun m g _ =>
  (θ_run (Cert.Kernel.defs (F := Bits)) _ _).mono
    (fun _ h => ⟨fun c => ⟨(h.1 c (0 : Fin 3)).trans (Cert.Kernel.Ring.final_x m c), (h.1 c (1 : Fin 3)).trans (Cert.Kernel.Ring.final_w m c)⟩, h.2⟩)
    (Cert.Kernel.Ring.run_main m g)

/-- So does the kernel over the extended reals. -/
theorem ideal_ends : Cert.quiescent_KernelIdeal := fun m g _ =>
  (θ_run (Cert.KernelIdeal.defs (F := Ideal)) _ _).mono
    (fun _ h => ⟨fun c => ⟨(h.1 c (0 : Fin 3)).trans (Cert.KernelIdeal.Ring.final_x m c), (h.1 c (1 : Fin 3)).trans (Cert.KernelIdeal.Ring.final_w m c)⟩, h.2⟩)
    (Cert.KernelIdeal.Ring.run_main m g)

/-- And the reference. -/
theorem reference_ends : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run m g)

/-- Each device's result is its column block of the reference's. -/
theorem same_values : Cert.algebraic_KernelIdeal_ReferenceIdeal := fun m g m' g' _ hm =>
  ⟨Cert.Values.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => by
        have hx : Cert.KernelIdeal.Ring.xAt m = Cert.Values.xBlock _ := funext fun d => (Cert.KernelIdeal.Ring.xAt_eq m d).trans (hm d).1
        have hw : Cert.KernelIdeal.Ring.wAt m = Cert.Values.wBlock _ := funext fun d => (Cert.KernelIdeal.Ring.wAt_eq m d).trans (hm d).2
        refine ⟨(h.1 c (2 : Fin 3)).trans ((Cert.KernelIdeal.Ring.final_out m c).trans ?_),
          (h.1 c (0 : Fin 3)).trans (Cert.KernelIdeal.Ring.final_x m c), (h.1 c (1 : Fin 3)).trans (Cert.KernelIdeal.Ring.final_w m c)⟩
        rw [hx, hw]
        exact Cert.Values.out_whole _ _ c)
      (Cert.KernelIdeal.Ring.run_main m g),
    (θ_run (Cert.ReferenceIdeal.defs (F := Ideal)) _ _).mono
      (fun _ h => ⟨(h 0).1.trans (Cert.ReferenceIdeal.Read.val_main_v15_eq _ _), (h 0).2.1, (h 0).2.2⟩)
      (Cert.ReferenceIdeal.Value.run m' g')⟩

theorem claim : Cert.Claim :=
  ⟨Cert.Kernel.Gen.facts, Cert.KernelIdeal.Gen.facts, Cert.ReferenceIdeal.Gen.facts,
    kernel_ends, ideal_ends, reference_ends, trivial, same_values⟩

end Cert.Proof

end
